-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served_KernelIdeal [hPre_served_KernelIdeal : Cert.Pre_served_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_served_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served_ReferenceIdeal [hPre_served_ReferenceIdeal : Cert.Pre_served_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_served_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_served_KernelIdeal [hKernelIdeal : Cert.KernelIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_served_ReferenceIdeal [hReferenceIdeal : Cert.ReferenceIdeal.Facts] [hPre_served_ReferenceIdeal : Cert.Pre_served_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_served_KernelIdeal [hKernelIdeal : Cert.KernelIdeal.Facts] [hReferenceIdeal : Cert.ReferenceIdeal.Facts] [hPre_served_KernelIdeal : Cert.Pre_served_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_served_KernelIdeal : Cert.Pre_served_KernelIdeal.Facts) (hPre_served_ReferenceIdeal : Cert.Pre_served_ReferenceIdeal.Facts),
    quiescent_Kernel (hKernel := hKernel)
    ∧ quiescent_KernelIdeal (hKernelIdeal := hKernelIdeal)
    ∧ quiescent_KernelIdeal_pre_served_KernelIdeal (hKernelIdeal := hKernelIdeal) (hPre_served_KernelIdeal := hPre_served_KernelIdeal)
    ∧ quiescent_ReferenceIdeal (hReferenceIdeal := hReferenceIdeal)
    ∧ quiescent_ReferenceIdeal_pre_served_ReferenceIdeal (hReferenceIdeal := hReferenceIdeal) (hPre_served_ReferenceIdeal := hPre_served_ReferenceIdeal)
    ∧ preserves_Kernel_KernelIdeal
    ∧ algebraic_KernelIdeal_ReferenceIdeal_pre_served_KernelIdeal (hKernelIdeal := hKernelIdeal) (hReferenceIdeal := hReferenceIdeal) (hPre_served_KernelIdeal := hPre_served_KernelIdeal)
-- ==== Pre_served_KernelIdeal.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S_ : Shape := ⟨0, ![]⟩

class Facts : Prop where
  bcast_S_S1024x256 : S_.BroadcastsInDim S1024x256 (![] : Fin 0 → Fin S1024x256.rank)
  bcast_S_S256x16 : S_.BroadcastsInDim S256x16 (![] : Fin 0 → Fin S256x16.rank)
  bcast_S_S1024x2 : S_.BroadcastsInDim S1024x2 (![] : Fin 0 → Fin S1024x2.rank)

variable [Facts]

def fn {F : FTy → Type} [FloatOps F] (main_arg0 : FVec F S1024x256 .f32) (main_arg1 : FVec F S256x16 .f32) (main_arg2 : IVec S1024x2 32) (main_arg3 : FVec F S4x256x512 .f32) : IVec S1024x256 1 × IVec S256x16 1 × IVec S1024x2 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 16#32
  let main_v8 : IVec S1024x2 32 := broadcastInDim S1024x2 ![] bcast_S_S1024x2 main_c_1
  let main_v9 : IVec S1024x2 1 := cmpi .slt main_arg2 main_v8
  let main_v10 : IVec S1024x2 1 := andi main_v7 main_v9
  (main_v2, main_v5, main_v10)
-- ==== Pre_served_ReferenceIdeal.lean ====
abbrev S1024x256 : Shape := ⟨2, ![1024, 256]⟩
abbrev S256x16 : Shape := ⟨2, ![256, 16]⟩
abbrev S1024x2 : Shape := ⟨2, ![1024, 2]⟩
abbrev S16x256x512 : Shape := ⟨3, ![16, 256, 512]⟩
abbrev S_ : Shape := ⟨0, ![]⟩

class Facts : Prop where
  bcast_S_S1024x256 : S_.BroadcastsInDim S1024x256 (![] : Fin 0 → Fin S1024x256.rank)
  bcast_S_S256x16 : S_.BroadcastsInDim S256x16 (![] : Fin 0 → Fin S256x16.rank)
  bcast_S_S1024x2 : S_.BroadcastsInDim S1024x2 (![] : Fin 0 → Fin S1024x2.rank)

variable [Facts]

def fn {F : FTy → Type} [FloatOps F] (main_arg0 : FVec F S1024x256 .f32) (main_arg1 : FVec F S256x16 .f32) (main_arg2 : IVec S1024x2 32) (main_arg3 : FVec F S16x256x512 .f32) : IVec S1024x256 1 × IVec S256x16 1 × IVec S1024x2 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 16#32
  let main_v8 : IVec S1024x2 32 := broadcastInDim S1024x2 ![] bcast_S_S1024x2 main_c_1
  let main_v9 : IVec S1024x2 1 := cmpi .slt main_arg2 main_v8
  let main_v10 : IVec S1024x2 1 := andi main_v7 main_v9
  (main_v2, main_v5, main_v10)
-- ==== Kernel.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S1024x512 : Shape := ⟨2, ![1024, 512]⟩
abbrev S2x512x256 : Shape := ⟨3, ![2, 512, 256]⟩
abbrev S2x256x256 : Shape := ⟨3, ![2, 256, 256]⟩
abbrev S8 : Shape := ⟨1, ![8]⟩
abbrev S_ : Shape := ⟨0, ![]⟩
abbrev S1024x16 : Shape := ⟨2, ![1024, 16]⟩
abbrev S1024 : Shape := ⟨1, ![1024]⟩
abbrev S1024x1 : Shape := ⟨2, ![1024, 1]⟩
abbrev S1x256x256 : Shape := ⟨3, ![1, 256, 256]⟩
abbrev S256x256 : Shape := ⟨2, ![256, 256]⟩
abbrev S512x256 : Shape := ⟨2, ![512, 256]⟩
abbrev S1x512x256 : Shape := ⟨3, ![1, 512, 256]⟩
abbrev S1 : Shape := ⟨1, ![1]⟩

abbrev nBuf : Space → Nat
  | .hbm => 5
  | .vmem => 11
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x2, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S256x16, .f32⟩
  | .local _ .vmem, ⟨2, _⟩ => ⟨S1024x2, .i32⟩
  | .local _ .vmem, ⟨3, _⟩ => ⟨S4x256x512, .f32⟩
  | .local _ .vmem, ⟨4, _⟩ => ⟨S1024x512, .f32⟩
  | .local _ .vmem, ⟨5, _⟩ => ⟨S2x512x256, .bf16⟩
  | .local _ .vmem, ⟨6, _⟩ => ⟨S2x256x256, .bf16⟩
  | .local _ .vmem, ⟨7, _⟩ => ⟨S2x512x256, .bf16⟩
  | .local _ .vmem, ⟨8, _⟩ => ⟨S2x256x256, .bf16⟩
  | .local _ .vmem, ⟨9, _⟩ => ⟨S2x512x256, .bf16⟩
  | .local _ .vmem, ⟨10, _⟩ => ⟨S2x512x256, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v9 : BitVec 32 := Scalar.xori v2 c1_i32_2
  let c1_i32_4 : BitVec 32 := 1#32
  let v12 : BitVec 32 := Scalar.muli v9 c1_i32_4
  let v13 : BitVec 32 := Scalar.addi c0_i32 v12
  v13.toNat
def k0_dev2 (d0 : Dev nD) : Nat :=
  let c0_i32_7 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10 : BitVec 32 := Scalar.subi c3_i32 v2
  let c1_i32_6 : BitVec 32 := 1#32
  let v14 : BitVec 32 := Scalar.muli v10 c1_i32_6
  let v15 : BitVec 32 := Scalar.addi c0_i32_7 v14
  v15.toNat
def k0_off1 (d0 : Dev nD) : Fin 2 → Nat :=
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 1 := Scalar.cmpi .eq v2 c1_i32_0
  let c2_i32_1 : BitVec 32 := 2#32
  let v6 : BitVec 1 := Scalar.cmpi .eq v2 c2_i32_1
  let v7 : BitVec 1 := Scalar.ori v5 v6
  let v8 : BitVec 32 := Scalar.extui v7
  let v109 : BitVec 32 := Scalar.subi c1_i32_37 v8
  let c512_i32_38 : BitVec 32 := 512#32
  let v110 : BitVec 32 := Scalar.muli v109 c512_i32_38
  let v151 : Index := Scalar.indexCast v110
  let c0_63 : Index := 0#32
  ![v151.toNat, 0]
def k0_dev3 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v9 : BitVec 32 := Scalar.xori v2 c1_i32_2
  let c1_i32_71 : BitVec 32 := 1#32
  let v158 : BitVec 32 := Scalar.muli v9 c1_i32_71
  let v159 : BitVec 32 := Scalar.addi c0_i32_72 v158
  v159.toNat
def k0_off2 (d0 : Dev nD) : Fin 2 → Nat :=
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let v4 : BitVec 32 := Scalar.extui v3
  let v120 : BitVec 32 := Scalar.subi c1_i32_45 v4
  let c512_i32_46 : BitVec 32 := 512#32
  let v121 : BitVec 32 := Scalar.muli v120 c512_i32_46
  let v186 : Index := Scalar.indexCast v121
  let c256_83 : Index := 256#32
  ![v186.toNat, 256]
def k0_dev4 (d0 : Dev nD) : Nat :=
  let c0_i32_92 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10 : BitVec 32 := Scalar.subi c3_i32 v2
  let c1_i32_91 : BitVec 32 := 1#32
  let v193 : BitVec 32 := Scalar.muli v10 c1_i32_91
  let v194 : BitVec 32 := Scalar.addi c0_i32_92 v193
  v194.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 1 := Scalar.cmpi .eq v2 c1_i32_0
  let c2_i32_1 : BitVec 32 := 2#32
  let v6 : BitVec 1 := Scalar.cmpi .eq v2 c2_i32_1
  let v7 : BitVec 1 := Scalar.ori v5 v6
  let v8 : BitVec 32 := Scalar.extui v7
  let c512_i32 : BitVec 32 := 512#32
  let v108 : BitVec 32 := Scalar.muli v8 c512_i32
  let v217 : Index := Scalar.indexCast v108
  let c0_116 : Index := 0#32
  ![v217.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 1 := Scalar.cmpi .eq v2 c1_i32_0
  let c2_i32_1 : BitVec 32 := 2#32
  let v6 : BitVec 1 := Scalar.cmpi .eq v2 c2_i32_1
  let v7 : BitVec 1 := Scalar.ori v5 v6
  let v8 : BitVec 32 := Scalar.extui v7
  let c512_i32 : BitVec 32 := 512#32
  let v108 : BitVec 32 := Scalar.muli v8 c512_i32
  let c1_i32_39 : BitVec 32 := 1#32
  let c2_i32 : BitVec 32 := 2#32
  let v3 : BitVec 1 := Scalar.cmpi .sge v2 c2_i32
  let v4 : BitVec 32 := Scalar.extui v3
  let v113 : BitVec 32 := Scalar.subi c1_i32_39 v4
  let c256_i32_40 : BitVec 32 := 256#32
  let v114 : BitVec 32 := Scalar.muli v113 c256_i32_40
  let v115 : BitVec 32 := Scalar.addi v108 v114
  let v226 : Index := Scalar.indexCast v115
  let c0_121 : Index := 0#32
  ![v226.toNat, 0]
def k0_dev5 (d0 : Dev nD) : Nat :=
  let c0_i32_130 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10 : BitVec 32 := Scalar.subi c3_i32 v2
  let c1_i32_129 : BitVec 32 := 1#32
  let v233 : BitVec 32 := Scalar.muli v10 c1_i32_129
  let v234 : BitVec 32 := Scalar.addi c0_i32_130 v233
  v234.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let v4 : BitVec 32 := Scalar.extui v3
  let c512_i32_44 : BitVec 32 := 512#32
  let v119 : BitVec 32 := Scalar.muli v4 c512_i32_44
  let v257 : Index := Scalar.indexCast v119
  let c256_154 : Index := 256#32
  ![v257.toNat, 256]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let v4 : BitVec 32 := Scalar.extui v3
  let c512_i32_44 : BitVec 32 := 512#32
  let v119 : BitVec 32 := Scalar.muli v4 c512_i32_44
  let c1_i32_48 : BitVec 32 := 1#32
  let c1_i32_0 : BitVec 32 := 1#32
  let v5 : BitVec 1 := Scalar.cmpi .eq v2 c1_i32_0
  let c2_i32_1 : BitVec 32 := 2#32
  let v6 : BitVec 1 := Scalar.cmpi .eq v2 c2_i32_1
  let v7 : BitVec 1 := Scalar.ori v5 v6
  let v8 : BitVec 32 := Scalar.extui v7
  let v124 : BitVec 32 := Scalar.subi c1_i32_48 v8
  let c256_i32_49 : BitVec 32 := 256#32
  let v125 : BitVec 32 := Scalar.muli v124 c256_i32_49
  let v126 : BitVec 32 := Scalar.addi v119 v125
  let v266 : Index := Scalar.indexCast v126
  let c256_159 : Index := 256#32
  ![v266.toNat, 256]
def k0_dev6 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v9 : BitVec 32 := Scalar.xori v2 c1_i32_2
  let c1_i32_166 : BitVec 32 := 1#32
  let v273 : BitVec 32 := Scalar.muli v9 c1_i32_166
  let v274 : BitVec 32 := Scalar.addi c0_i32_167 v273
  v274.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 1 := Scalar.cmpi .eq v2 c1_i32_0
  let c2_i32_1 : BitVec 32 := 2#32
  let v6 : BitVec 1 := Scalar.cmpi .eq v2 c2_i32_1
  let v7 : BitVec 1 := Scalar.ori v5 v6
  let v8 : BitVec 32 := Scalar.extui v7
  let c512_i32 : BitVec 32 := 512#32
  let v108 : BitVec 32 := Scalar.muli v8 c512_i32
  let c2_i32 : BitVec 32 := 2#32
  let v3 : BitVec 1 := Scalar.cmpi .sge v2 c2_i32
  let v4 : BitVec 32 := Scalar.extui v3
  let c256_i32 : BitVec 32 := 256#32
  let v111 : BitVec 32 := Scalar.muli v4 c256_i32
  let v112 : BitVec 32 := Scalar.addi v108 v111
  let v297 : Index := Scalar.indexCast v112
  let c0_191 : Index := 0#32
  ![v297.toNat, 0]
def k0_off8 (d0 : Dev nD) : Fin 3 → Nat :=
  let c0_196 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let v4 : BitVec 32 := Scalar.extui v3
  let c256_i32_41 : BitVec 32 := 256#32
  let v116 : BitVec 32 := Scalar.muli v4 c256_i32_41
  let v307 : Index := Scalar.indexCast v116
  let c0_197 : Index := 0#32
  ![0, v307.toNat, 0]
def k0_off9 (d0 : Dev nD) : Fin 3 → Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let v4 : BitVec 32 := Scalar.extui v3
  let c256_i32_41 : BitVec 32 := 256#32
  let v116 : BitVec 32 := Scalar.muli v4 c256_i32_41
  let c0_i32_204 : BitVec 32 := 0#32
  ![0, v116.toNat, 0]
def k0_dev7 (d0 : Dev nD) : Nat :=
  let c0_i32_203 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10 : BitVec 32 := Scalar.subi c3_i32 v2
  let c1_i32_202 : BitVec 32 := 1#32
  let v311 : BitVec 32 := Scalar.muli v10 c1_i32_202
  let v312 : BitVec 32 := Scalar.addi c0_i32_203 v311
  v312.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let v4 : BitVec 32 := Scalar.extui v3
  let c512_i32_44 : BitVec 32 := 512#32
  let v119 : BitVec 32 := Scalar.muli v4 c512_i32_44
  let c1_i32_0 : BitVec 32 := 1#32
  let v5 : BitVec 1 := Scalar.cmpi .eq v2 c1_i32_0
  let c2_i32_1 : BitVec 32 := 2#32
  let v6 : BitVec 1 := Scalar.cmpi .eq v2 c2_i32_1
  let v7 : BitVec 1 := Scalar.ori v5 v6
  let v8 : BitVec 32 := Scalar.extui v7
  let c256_i32_47 : BitVec 32 := 256#32
  let v122 : BitVec 32 := Scalar.muli v8 c256_i32_47
  let v123 : BitVec 32 := Scalar.addi v119 v122
  let v335 : Index := Scalar.indexCast v123
  let c256_225 : Index := 256#32
  ![v335.toNat, 256]
def k0_off11 (d0 : Dev nD) : Fin 3 → Nat :=
  let c1_230 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 1 := Scalar.cmpi .eq v2 c1_i32_0
  let c2_i32_1 : BitVec 32 := 2#32
  let v6 : BitVec 1 := Scalar.cmpi .eq v2 c2_i32_1
  let v7 : BitVec 1 := Scalar.ori v5 v6
  let v8 : BitVec 32 := Scalar.extui v7
  let c256_i32_50 : BitVec 32 := 256#32
  let v127 : BitVec 32 := Scalar.muli v8 c256_i32_50
  let v345 : Index := Scalar.indexCast v127
  let c0_231 : Index := 0#32
  ![1, v345.toNat, 0]
def k0_off12 (d0 : Dev nD) : Fin 3 → Nat :=
  let c1_i32_233 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 1 := Scalar.cmpi .eq v2 c1_i32_0
  let c2_i32_1 : BitVec 32 := 2#32
  let v6 : BitVec 1 := Scalar.cmpi .eq v2 c2_i32_1
  let v7 : BitVec 1 := Scalar.ori v5 v6
  let v8 : BitVec 32 := Scalar.extui v7
  let c256_i32_50 : BitVec 32 := 256#32
  let v127 : BitVec 32 := Scalar.muli v8 c256_i32_50
  let c0_i32_237 : BitVec 32 := 0#32
  ![1, v127.toNat, 0]
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v9 : BitVec 32 := Scalar.xori v2 c1_i32_2
  let c1_i32_235 : BitVec 32 := 1#32
  let v349 : BitVec 32 := Scalar.muli v9 c1_i32_235
  let v350 : BitVec 32 := Scalar.addi c0_i32_236 v349
  v350.toNat
def k0_off13 (d0 : Dev nD) : Fin 3 → Nat :=
  let c0_254 : Index := 0#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 1 := Scalar.cmpi .sge v2 c2_i32
  let v4 : BitVec 32 := Scalar.extui v3
  let v117 : BitVec 32 := Scalar.subi c1_i32_42 v4
  let c256_i32_43 : BitVec 32 := 256#32
  let v118 : BitVec 32 := Scalar.muli v117 c256_i32_43
  let v373 : Index := Scalar.indexCast v118
  let c0_255 : Index := 0#32
  ![0, v373.toNat, 0]
def k0_dev9 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v9 : BitVec 32 := Scalar.xori v2 c1_i32_2
  let c1_i32_261 : BitVec 32 := 1#32
  let v380 : BitVec 32 := Scalar.muli v9 c1_i32_261
  let v381 : BitVec 32 := Scalar.addi c0_i32_262 v380
  v381.toNat
def k0_off14 (d0 : Dev nD) : Fin 3 → Nat :=
  let c1_282 : Index := 1#32
  let c1_i32_51 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v5 : BitVec 1 := Scalar.cmpi .eq v2 c1_i32_0
  let c2_i32_1 : BitVec 32 := 2#32
  let v6 : BitVec 1 := Scalar.cmpi .eq v2 c2_i32_1
  let v7 : BitVec 1 := Scalar.ori v5 v6
  let v8 : BitVec 32 := Scalar.extui v7
  let v128 : BitVec 32 := Scalar.subi c1_i32_51 v8
  let c256_i32_52 : BitVec 32 := 256#32
  let v129 : BitVec 32 := Scalar.muli v128 c256_i32_52
  let v404 : Index := Scalar.indexCast v129
  let c0_283 : Index := 0#32
  ![1, v404.toNat, 0]
def k0_dev10 (d0 : Dev nD) : Nat :=
  let c0_i32_289 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v10 : BitVec 32 := Scalar.subi c3_i32 v2
  let c1_i32_288 : BitVec 32 := 1#32
  let v411 : BitVec 32 := Scalar.muli v10 c1_i32_288
  let v412 : BitVec 32 := Scalar.addi c0_i32_289 v411
  v412.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x2 : Shape := ⟨2, ![1024, 2]⟩
abbrev S16x256x512 : Shape := ⟨3, ![16, 256, 512]⟩
abbrev S1024x16 : Shape := ⟨2, ![1024, 16]⟩
abbrev S_ : Shape := ⟨0, ![]⟩
abbrev S1024 : Shape := ⟨1, ![1024]⟩
abbrev S1024x1 : Shape := ⟨2, ![1024, 1]⟩
abbrev S1024x256x512 : Shape := ⟨3, ![1024, 256, 512]⟩
abbrev S1024x512 : Shape := ⟨2, ![1024, 512]⟩

abbrev nBuf : Space → Nat
  | .hbm => 87
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x2, .i32⟩
  | .hbm, ⟨3, _⟩ => ⟨S16x256x512, .f32⟩
  | .hbm, ⟨4, _⟩ => ⟨S1024x16, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x16, .f32⟩
  | .hbm, ⟨9, _⟩ => ⟨S1024x16, .f32⟩
  | .hbm, ⟨10, _⟩ => ⟨S1024x16, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x16, .f32⟩
  | .hbm, ⟨15, _⟩ => ⟨S1024x16, .f32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x1, .i32⟩
  | .hbm, ⟨37, _⟩ => ⟨S1024x2, .i32⟩
  | .hbm, ⟨38, _⟩ => ⟨S1024, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x1, .i32⟩
  | .hbm, ⟨55, _⟩ => ⟨S1024x2, .i32⟩
  | .hbm, ⟨56, _⟩ => ⟨S1024, .f32⟩
  | .hbm, ⟨57, _⟩ => ⟨S1024, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S1024x256x512, .f32⟩
  | .hbm, ⟨67, _⟩ => ⟨S1024x512, .f32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S1024x1, .i32⟩
  | .hbm, ⟨76, _⟩ => ⟨S1024x256x512, .f32⟩
  | .hbm, ⟨77, _⟩ => ⟨S1024x512, .f32⟩
  | .hbm, ⟨78, _⟩ => ⟨S1024, .f32⟩
  | .hbm, ⟨79, _⟩ => ⟨S1024x1, .f32⟩
  | .hbm, ⟨80, _⟩ => ⟨S1024x512, .f32⟩
  | .hbm, ⟨81, _⟩ => ⟨S1024x512, .f32⟩
  | .hbm, ⟨82, _⟩ => ⟨S1024, .f32⟩
  | .hbm, ⟨83, _⟩ => ⟨S1024x1, .f32⟩
  | .hbm, ⟨84, _⟩ => ⟨S1024x512, .f32⟩
  | .hbm, ⟨85, _⟩ => ⟨S1024x512, .f32⟩
  | .hbm, ⟨86, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Wire.lean ====
/-
Facts about slots of a buffer that know nothing of this kernel: a slot is a rectangle of a buffer, read without its
leading unit axis. They say when two slots cover a third, what a load or a store of the rectangle does to an owned slot,
and how a transfer carries an owned slot to another device.
-/
module

public import Idealize.ShloMosaic.Lib.Pipeline.Launch
public import Idealize.ShloMosaic.Lib.Pipeline.Kit
public import Idealize.ShloMosaic.Lib.Tactic

@[expose] public section

noncomputable section

namespace Cert.Wire

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}
variable {sp : Space} {s s' : Shape} {e : EltTy}

local notation "𝕄" => MT nD τ sig Ix Val Name U Lvl

/-- The memref is owned in full, whatever it holds. -/
def has (c : Thread nD τ) (m : Memref sig c.2.kind sp s e) : sProp 𝕄 := iprop(∃ X, owns c m fullShare X)

instance has_storable (c : Thread nD τ) (m : Memref sig c.2.kind sp s e) :
    BI.Storable (upEmb : UEmb _ 𝕄) (has c m : sProp 𝕄) := by
  unfold has; infer_instance

/-- What is owned with known contents is owned. -/
theorem has_of_owns (c : Thread nD τ) (m : Memref sig c.2.kind sp s e) (X : s.Idx → Val e) :
    (owns c m fullShare X : sProp 𝕄) ⊢ has c m := by
  unfold has; iintro H; iexists X; iexact H

/-- Some elements of the memref's buffer are owned, whatever they hold. -/
def bare (c : Thread nD τ) (m : Memref sig c.2.kind sp s e) (S : Finset s.Idx) : sProp 𝕄 :=
  iprop(∃ f, (m.view.loc c ↦[m.view.setOn S]{fullShare} f))

/-- Owning two disjoint sets of elements is owning their union. -/
theorem bare_union (c : Thread nD τ) (m : Memref sig c.2.kind sp s e) {S T : Finset s.Idx} (h : Disjoint S T) :
    (bare c m (S ∪ T) : sProp 𝕄) = iprop(bare c m S ∗ bare c m T) := by
  have hd : Disjoint (m.view.setOn S) (m.view.setOn T) := (Finset.disjoint_map _).mpr h
  have hu : m.view.setOn (S ∪ T) = m.view.setOn S ∪ m.view.setOn T := Finset.map_union _ _
  have hl : (bare c m (S ∪ T) : sProp 𝕄) ⊢ iprop(bare c m S ∗ bare c m T) := by
    unfold bare; rw [hu]
    iintro ⟨%f, H⟩
    ihave H' := (pointsTo_union hd).1 $$ H
    icases H' with ⟨H1, H2⟩
    isplitl [H1]
    · iexists f; iexact H1
    · iexists f; iexact H2
  have hr : iprop(bare c m S ∗ bare c m T) ⊢ (bare c m (S ∪ T) : sProp 𝕄) := by
    unfold bare; rw [hu]
    iintro ⟨⟨%f, H1⟩, ⟨%g, H2⟩⟩
    iexists _
    iapply (pointsTo_join hd)
    isplitl [H1] <;> iassumption
  exact BI.equiv_iff.mp ⟨hl, hr⟩

/-- Owning a rectangle of the memref without its unit axis is owning the rectangle's elements. -/
theorem has_slot (c : Thread nD τ) (m : Memref sig c.2.kind sp s e) (r : Rect s) (hr : ∀ a, r.stride a = 1)
    (h : r.shape.Squeezes s') :
    (has c ((m.slice r hr).squeeze s' h) : sProp 𝕄) = bare c m r.set := by
  have hs : ((m.slice r hr).squeeze s' h).view.set = m.view.setOn r.set :=
    (View.set_reshape _ _).trans (View.set_slice _ _)
  have hl : (has c ((m.slice r hr).squeeze s' h) : sProp 𝕄) ⊢ bare c m r.set := by
    unfold has bare owns; rw [hs]
    iintro ⟨%X, %f, -, H⟩; iexists f; iexact H
  have hr : bare c m r.set ⊢ (has c ((m.slice r hr).squeeze s' h) : sProp 𝕄) := by
    unfold has bare owns; rw [hs]
    iintro ⟨%f, H⟩; iexists _; iexists f; isplitr; · ipureintro; rfl
    iexact H
  exact BI.equiv_iff.mp ⟨hl, hr⟩

/-- Owning a whole buffer is owning all its elements. -/
theorem bare_univ (c : Thread nD τ) (b : Ref sig c.2.kind) :
    (bare c (Memref.whole b) Finset.univ : sProp 𝕄) = iprop(∃ f, (c.loc b) ↦{fullShare} f) := by
  unfold bare
  rw [show (Memref.whole b).view.setOn Finset.univ = Finset.univ from View.set_whole b]

/-- The contents of a slot, told by the rectangle's own indices. -/
abbrev flat {r : Rect s} (h : r.shape.Squeezes s') (X : s'.Idx → Val e) : r.shape.Idx → Val e :=
  fun j => X ((Shape.reshapeEquiv h.numel_eq).symm j)

/-- The contents of a rectangle, told by the slot's indices. -/
abbrev thin {r : Rect s} (h : r.shape.Squeezes s') (w : r.shape.Idx → Val e) : s'.Idx → Val e :=
  fun j => w (Shape.reshapeEquiv h.numel_eq j)

/-- Two slots that together make up a third, each read out of one array `X`, are the third read out of `X`. -/
theorem owns_merge {s₁ s₂ : Shape} (c : Thread nD τ) (m : Memref sig c.2.kind sp s e) (r₁ r₂ r : Rect s)
    (h₁ : ∀ a, r₁.stride a = 1) (h₂ : ∀ a, r₂.stride a = 1) (h : ∀ a, r.stride a = 1)
    (q₁ : r₁.shape.Squeezes s₁) (q₂ : r₂.shape.Squeezes s₂) (q : r.shape.Squeezes s')
    (hd : Disjoint r₁.set r₂.set) (hu : r₁.set ∪ r₂.set = r.set) (X : s.Idx → Val e) :
    iprop(owns c ((m.slice r₁ h₁).squeeze s₁ q₁) fullShare (thin q₁ fun j => X (r₁.emb j))
        ∗ owns c ((m.slice r₂ h₂).squeeze s₂ q₂) fullShare (thin q₂ fun j => X (r₂.emb j)))
      ⊢ (owns c ((m.slice r h).squeeze s' q) fullShare (thin q fun j => X (r.emb j)) : sProp 𝕄) := by
  have hs₁ : ((m.slice r₁ h₁).squeeze s₁ q₁).view.set = m.view.setOn r₁.set :=
    (View.set_reshape _ _).trans (View.set_slice _ _)
  have hs₂ : ((m.slice r₂ h₂).squeeze s₂ q₂).view.set = m.view.setOn r₂.set :=
    (View.set_reshape _ _).trans (View.set_slice _ _)
  have hs : ((m.slice r h).squeeze s' q).view.set = m.view.setOn r.set :=
    (View.set_reshape _ _).trans (View.set_slice _ _)
  have hD : Disjoint (m.view.setOn r₁.set) (m.view.setOn r₂.set) := (Finset.disjoint_map _).mpr hd
  unfold owns; rw [hs₁, hs₂, hs]
  iintro ⟨⟨%f, %hf, H1⟩, ⟨%g, %hg, H2⟩⟩
  have hf' : ∀ x ∈ r₁.set, m.view.read Val f x = X x := fun x hx => by
    rw [← Rect.map_emb_univ] at hx
    obtain ⟨j, -, rfl⟩ := Finset.mem_map.mp hx
    have := congrFun hf ((Shape.reshapeEquiv q₁.numel_eq).symm j)
    simp only [thin, Equiv.apply_symm_apply] at this
    rw [← this]
    show _ = m.view.read Val f (r₁.emb (Shape.reshapeEquiv q₁.numel_eq ((Shape.reshapeEquiv q₁.numel_eq).symm j)))
    rw [Equiv.apply_symm_apply]
  have hg' : ∀ x ∈ r₂.set, m.view.read Val g x = X x := fun x hx => by
    rw [← Rect.map_emb_univ] at hx
    obtain ⟨j, -, rfl⟩ := Finset.mem_map.mp hx
    have := congrFun hg ((Shape.reshapeEquiv q₂.numel_eq).symm j)
    simp only [thin, Equiv.apply_symm_apply] at this
    rw [← this]
    show _ = m.view.read Val g (r₂.emb (Shape.reshapeEquiv q₂.numel_eq ((Shape.reshapeEquiv q₂.numel_eq).symm j)))
    rw [Equiv.apply_symm_apply]
  iexists ((m.view.setOn r₂.set).piecewise g f)
  isplitr
  · ipureintro
    funext j
    show m.view.read Val _ (r.emb (Shape.reshapeEquiv q.numel_eq j)) = X (r.emb (Shape.reshapeEquiv q.numel_eq j))
    have hx : r.emb (Shape.reshapeEquiv q.numel_eq j) ∈ r.set := by
      rw [← Rect.map_emb_univ]; exact Finset.mem_map_of_mem _ (Finset.mem_univ _)
    generalize r.emb (Shape.reshapeEquiv q.numel_eq j) = x at hx ⊢
    by_cases hx₂ : x ∈ r₂.set
    · rw [← hg' x hx₂, View.read_apply, View.read_apply, Finset.piecewise_eq_of_mem _ _ _ ((View.mem_setOn m.view).mpr hx₂)]
    · have hx₁ : x ∈ r₁.set := by
        rw [← hu, Finset.mem_union] at hx; exact hx.resolve_right hx₂
      rw [← hf' x hx₁, View.read_apply, View.read_apply,
        Finset.piecewise_eq_of_notMem _ _ _ (fun hh => hx₂ ((View.mem_setOn m.view).mp hh))]
  · rw [show m.view.setOn r.set = m.view.setOn r₁.set ∪ m.view.setOn r₂.set by rw [← hu]; exact Finset.map_union _ _]
    iapply (pointsTo_join hD)
    isplitl [H1] <;> iassumption

/-! ## Steps of a program on slots -/

variable {Λ : Labels} {defs : Defs nD τ sig Val Λ} [Preorder Lvl] (𝒱 : Variants)
variable {α : Type} {Q : α → sProp (MT nD τ sig Ix Val Name U Lvl)}

/-- A load of the rectangle behind an owned slot reads the slot's contents. -/
theorem load_slot (c : Thread nD τ) {cs : CoreSpace} {m : Memref sig c.2.kind cs s e} {r : Rect s} {hr : ∀ a, r.stride a = 1}
    (q : r.shape.Squeezes s') {hl : m.view.LoadsAt r} {k : (r.shape.Idx → Val e) → Prog (TpuEff nD τ sig Val Λ c.2) α}
    (X : s'.Idx → Val e) :
    (owns c ((m.slice r hr).squeeze s' q) fullShare X : sProp 𝕄)
      ⊢ iprop((owns c ((m.slice r hr).squeeze s' q) fullShare X -∗ wp frame (wpE defs 𝒱 c none) Set.univ (k (flat q X)) Q)
        -∗ wp frame (wpE defs 𝒱 c none) Set.univ (.op (.load m r hl) k) Q) := by
  have hs : ((m.slice r hr).squeeze s' q).view.set = (m.view.slice r).set := View.set_reshape _ _
  unfold owns; rw [hs]
  iintro ⟨%f, %hf, H⟩ Hk
  iapply (wp_load_rect 𝒱 c none Set.univ (m := m) (r := r) (S := (m.view.slice r).set) (f := f) subset_rfl) $$ H
  iintro H
  have hX : flat q X = (m.view.slice r).read Val f := by
    funext j
    rw [← hf]
    show (m.view.slice r).read Val f (Shape.reshapeEquiv q.numel_eq ((Shape.reshapeEquiv q.numel_eq).symm j)) = _
    rw [Equiv.apply_symm_apply]
  rw [hX]
  iapply Hk
  iexists f
  isplitr; · ipureintro; exact hf
  iexact H

/-- A load of the rectangle behind a slot owned at unknown contents. -/
theorem load_has (c : Thread nD τ) {cs : CoreSpace} {m : Memref sig c.2.kind cs s e} {r : Rect s} {hr : ∀ a, r.stride a = 1}
    (q : r.shape.Squeezes s') {hl : m.view.LoadsAt r} {k : (r.shape.Idx → Val e) → Prog (TpuEff nD τ sig Val Λ c.2) α} :
    (has c ((m.slice r hr).squeeze s' q) : sProp 𝕄)
      ⊢ iprop((∀ X, has c ((m.slice r hr).squeeze s' q) -∗ wp frame (wpE defs 𝒱 c none) Set.univ (k X) Q)
        -∗ wp frame (wpE defs 𝒱 c none) Set.univ (.op (.load m r hl) k) Q) := by
  iintro H Hk
  unfold has
  icases H with ⟨%X, H⟩
  iapply (load_slot 𝒱 c q X) $$ H
  iintro H
  iapply Hk
  iexists X; iexact H

/-- A store into the rectangle behind a slot leaves the slot holding what was stored. -/
theorem store_slot (c : Thread nD τ) {cs : CoreSpace} {m : Memref sig c.2.kind cs s e} {r : Rect s} {hr : ∀ a, r.stride a = 1}
    (q : r.shape.Squeezes s') {w : r.shape.Idx → Val e} {hx : (m.access r).Stores Finset.univ}
    {hm : (Finset.univ : Finset r.shape.Idx) = Finset.univ ∨ ∀ a, r.stride a = 1}
    {k : PUnit → Prog (TpuEff nD τ sig Val Λ c.2) α} :
    (has c ((m.slice r hr).squeeze s' q) : sProp 𝕄)
      ⊢ iprop((owns c ((m.slice r hr).squeeze s' q) fullShare (thin q w) -∗ wp frame (wpE defs 𝒱 c none) Set.univ (k ⟨⟩) Q)
        -∗ wp frame (wpE defs 𝒱 c none) Set.univ (.op (.store m r w Finset.univ hx hm) k) Q) := by
  have hs : ((m.slice r hr).squeeze s' q).view.set = (m.view.slice r).set := View.set_reshape _ _
  unfold has owns; rw [hs]
  iintro ⟨%X, %f, %hf, H⟩ Hk
  iapply (wp_store 𝒱 c none Set.univ (m := m) (r := r) (w := w) (Mk := Finset.univ) (S := (m.view.slice r).set) (f := f)
    (by rw [View.setOn_univ])) $$ H
  iintro H
  iapply Hk
  iexists _
  isplitr
  swap
  · iexact H
  ipureintro
  funext j
  show (m.view.slice r).read Val ((m.view.slice r).write Val f w Finset.univ) (Shape.reshapeEquiv q.numel_eq j) = _
  rw [View.read_write_univ]

/-- A load from a whole buffer reads the buffer's contents at the rectangle. -/
theorem load_whole (c : Thread nD τ) {cs : CoreSpace} {m : Memref sig c.2.kind cs s e} {r : Rect s}
    {hl : m.view.LoadsAt r} {k : (r.shape.Idx → Val e) → Prog (TpuEff nD τ sig Val Λ c.2) α} (X : s.Idx → Val e) :
    (owns c m fullShare X : sProp 𝕄)
      ⊢ iprop((owns c m fullShare X -∗ wp frame (wpE defs 𝒱 c none) Set.univ (k fun j => X (r.emb j)) Q)
        -∗ wp frame (wpE defs 𝒱 c none) Set.univ (.op (.load m r hl) k) Q) := by
  unfold owns
  iintro ⟨%f, %hf, H⟩ Hk
  iapply (wp_load_rect 𝒱 c none Set.univ (m := m) (r := r) (S := m.view.set) (f := f)
    (by rw [View.set_slice]; exact Finset.map_subset_map.mpr (Finset.subset_univ _))) $$ H
  iintro H
  have hX : (fun j => X (r.emb j)) = (m.view.slice r).read Val f := by
    funext j; rw [← hf]; rfl
  rw [hX]
  iapply Hk
  iexists f
  isplitr; · ipureintro; exact hf
  iexact H

/-- An array rewritten on a rectangle. -/
def put (X : s.Idx → Val e) (r : Rect s) (w : r.shape.Idx → Val e) : s.Idx → Val e :=
  fun i => match preimage? r.emb i with
    | some j => w j
    | none => X i

theorem put_emb (X : s.Idx → Val e) (r : Rect s) (w : r.shape.Idx → Val e) (j : r.shape.Idx) : put X r w (r.emb j) = w j := by
  unfold put; rw [preimage?_emb]

theorem put_off (X : s.Idx → Val e) (r : Rect s) (w : r.shape.Idx → Val e) {i : s.Idx} (h : i ∉ r.set) : put X r w i = X i := by
  unfold put; rw [preimage?_eq_none_of_not_mem (by rwa [Rect.map_emb_univ])]

/-- A store into a buffer rewrites its contents on the rectangle. -/
theorem store_whole (c : Thread nD τ) {cs : CoreSpace} {m : Memref sig c.2.kind cs s e} {r : Rect s}
    {w : r.shape.Idx → Val e} {hx : (m.access r).Stores Finset.univ}
    {hm : (Finset.univ : Finset r.shape.Idx) = Finset.univ ∨ ∀ a, r.stride a = 1}
    {k : PUnit → Prog (TpuEff nD τ sig Val Λ c.2) α} (X : s.Idx → Val e) :
    (owns c m fullShare X : sProp 𝕄)
      ⊢ iprop((owns c m fullShare (put X r w) -∗ wp frame (wpE defs 𝒱 c none) Set.univ (k ⟨⟩) Q)
        -∗ wp frame (wpE defs 𝒱 c none) Set.univ (.op (.store m r w Finset.univ hx hm) k) Q) := by
  unfold owns
  iintro ⟨%f, %hf, H⟩ Hk
  iapply (wp_store 𝒱 c none Set.univ (m := m) (r := r) (w := w) (Mk := Finset.univ) (S := m.view.set) (f := f)
    (by rw [View.setOn_univ, View.set_slice]; exact Finset.map_subset_map.mpr (Finset.subset_univ _))) $$ H
  iintro H
  iapply Hk
  iexists _
  isplitr
  swap
  · iexact H
  ipureintro
  funext i
  by_cases hi : i ∈ r.set
  · rw [← Rect.map_emb_univ] at hi
    obtain ⟨j, -, rfl⟩ := Finset.mem_map.mp hi
    rw [put_emb]
    show (m.view.slice r).read Val ((m.view.slice r).write Val f w Finset.univ) j = _
    rw [View.read_write_univ]
  · rw [put_off _ _ _ hi, ← hf]
    rw [View.read_apply, View.read_apply, View.write_of_not_mem]
    rw [View.setOn_univ, View.set_slice]
    exact fun hh => hi ((View.mem_setOn m.view).mp hh)

end Cert.Wire
-- ==== Proof.KernelIdeal.Protocol.lean ====
/-
The protocol of the all-reduce: the two exchange partners of a device, the eight transfers it makes and the slots they
go between, what every slot and the result hold along the way, and the schedule of the semaphores.

A device talks to two others: `peer false` (device number with its last bit flipped) and `peer true` (3 minus the
number). Transfer `k` is transfer `k % 4` of the half of the columns `k / 4`: it uses send and receive semaphore `k`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Wire

@[expose] public section

noncomputable section

namespace Cert.KernelIdeal.Wave

open Cert.KernelIdeal Cert.KernelIdeal.Gen Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who talks to whom -/

/-- The two exchange partners of device `c`. -/
def peer (b : Bool) (c : Dev nD) : Dev nD :=
  if b then (![3, 2, 1, 0] : Fin 4 → Fin 4) c else (![1, 0, 3, 2] : Fin 4 → Fin 4) c

/-- Partners come in pairs. -/
theorem peer_peer (b : Bool) (c : Dev nD) : peer b (peer b c) = c := by revert b c; decide

/-- The pairing as a permutation of the devices. -/
def swap (b : Bool) : Dev nD ≃ Dev nD := ⟨peer b, peer b, peer_peer b, peer_peer b⟩

/-- Which partner transfer `k` goes to. -/
def via (k : Fin 8) : Bool := (![false, true, true, false, true, false, false, true] : Fin 8 → Bool) k

theorem dev1_eq (c : Dev nD) : (⟨k0_dev1 c, k0_dev1_lt c⟩ : Dev nD) = peer false c := by revert c; decide
theorem dev2_eq (c : Dev nD) : (⟨k0_dev2 c, k0_dev2_lt c⟩ : Dev nD) = peer true c := by revert c; decide
theorem dev3_eq (c : Dev nD) : (⟨k0_dev3 c, k0_dev3_lt c⟩ : Dev nD) = peer (via 0) c := by revert c; decide
theorem dev4_eq (c : Dev nD) : (⟨k0_dev4 c, k0_dev4_lt c⟩ : Dev nD) = peer (via 4) c := by revert c; decide
theorem dev5_eq (c : Dev nD) : (⟨k0_dev5 c, k0_dev5_lt c⟩ : Dev nD) = peer (via 1) c := by revert c; decide
theorem dev6_eq (c : Dev nD) : (⟨k0_dev6 c, k0_dev6_lt c⟩ : Dev nD) = peer (via 5) c := by revert c; decide
theorem dev7_eq (c : Dev nD) : (⟨k0_dev7 c, k0_dev7_lt c⟩ : Dev nD) = peer (via 2) c := by revert c; decide
theorem dev8_eq (c : Dev nD) : (⟨k0_dev8 c, k0_dev8_lt c⟩ : Dev nD) = peer (via 6) c := by revert c; decide
theorem dev9_eq (c : Dev nD) : (⟨k0_dev9 c, k0_dev9_lt c⟩ : Dev nD) = peer (via 3) c := by revert c; decide
theorem dev10_eq (c : Dev nD) : (⟨k0_dev10 c, k0_dev10_lt c⟩ : Dev nD) = peer (via 7) c := by revert c; decide

/-! ## Buffers, rectangles and slots -/

abbrev xB : Memref sig .tc .vmem S1024x256 .f32 := Memref.whole cc0_stg0_0
abbrev gB : Memref sig .tc .vmem S256x16 .f32 := Memref.whole cc0_stg1_0
abbrev iB : Memref sig .tc .vmem S1024x2 .i32 := Memref.whole cc0_stg2_0
abbrev wB : Memref sig .tc .vmem S4x256x512 .f32 := Memref.whole cc0_stg3_0
abbrev oB : Memref sig .tc .vmem S1024x512 .f32 := Memref.whole cc0_stg4_0
/-- The buffers a first and a second exchange land in, -/
abbrev in1 : Memref sig .tc .vmem S2x512x256 .bf16 := Memref.whole cc0_scratch0
abbrev in2 : Memref sig .tc .vmem S2x256x256 .bf16 := Memref.whole cc0_scratch1
/-- the buffers they are sent from, -/
abbrev out1 : Memref sig .tc .vmem S2x512x256 .bf16 := Memref.whole cc0_scratch2
abbrev out2 : Memref sig .tc .vmem S2x256x256 .bf16 := Memref.whole cc0_scratch3
/-- the buffer a device gathers its half of the rows in, and the one the other half lands in. -/
abbrev near : Memref sig .tc .vmem S2x512x256 .bf16 := Memref.whole cc0_scratch4
abbrev far : Memref sig .tc .vmem S2x512x256 .bf16 := Memref.whole cc0_scratch5

abbrev rX : Rect S1024x256 := Rect.unit (s := S1024x256) ![0, 0] S1024x256.size inb_S1024x256_S1024x256_0_0
abbrev rG : Rect S256x16 := Rect.unit (s := S256x16) ![0, 0] S256x16.size inb_S256x16_S256x16_0_0
abbrev rI0 : Rect S1024x2 := Rect.unit (s := S1024x2) ![0, 0] S1024x1.size inb_S1024x2_S1024x1_0_0
abbrev rI1 : Rect S1024x2 := Rect.unit (s := S1024x2) ![0, 1] S1024x1.size inb_S1024x2_S1024x1_0_1
abbrev rW : Rect S4x256x512 := Rect.unit (s := S4x256x512) ![0, 0, 0] S4x256x512.size inb_S4x256x512_S4x256x512_0_0_0
abbrev rA : Rect S1024x512 := Rect.unit (s := S1024x512) ![0, 0] S1024x256.size inb_S1024x512_S1024x256_0_0
abbrev rB : Rect S1024x512 := Rect.unit (s := S1024x512) ![0, 256] S1024x256.size inb_S1024x512_S1024x256_0_256
abbrev rO1 (c : Dev nD) : Rect S1024x512 := Rect.unit (s := S1024x512) (k0_off1 c) S512x256.size (k0_off1_inb c)
abbrev rO2 (c : Dev nD) : Rect S1024x512 := Rect.unit (s := S1024x512) (k0_off2 c) S512x256.size (k0_off2_inb c)
abbrev rO3 (c : Dev nD) : Rect S1024x512 := Rect.unit (s := S1024x512) (k0_off3 c) S512x256.size (k0_off3_inb c)
abbrev rO4 (c : Dev nD) : Rect S1024x512 := Rect.unit (s := S1024x512) (k0_off4 c) S256x256.size (k0_off4_inb c)
abbrev rO5 (c : Dev nD) : Rect S1024x512 := Rect.unit (s := S1024x512) (k0_off5 c) S512x256.size (k0_off5_inb c)
abbrev rO6 (c : Dev nD) : Rect S1024x512 := Rect.unit (s := S1024x512) (k0_off6 c) S256x256.size (k0_off6_inb c)
abbrev rO7 (c : Dev nD) : Rect S1024x512 := Rect.unit (s := S1024x512) (k0_off7 c) S256x256.size (k0_off7_inb c)
abbrev rO10 (c : Dev nD) : Rect S1024x512 := Rect.unit (s := S1024x512) (k0_off10 c) S256x256.size (k0_off10_inb c)

/-- The two slots of a buffer of two blocks of 512 rows, -/
abbrev rT0 : Rect S2x512x256 := Rect.unit (s := S2x512x256) ![0, 0, 0] S1x512x256.size inb_S2x512x256_S1x512x256_0_0_0
abbrev rT1 : Rect S2x512x256 := Rect.unit (s := S2x512x256) ![1, 0, 0] S1x512x256.size inb_S2x512x256_S1x512x256_1_0_0
/-- of one of two blocks of 256 rows, -/
abbrev rS0 : Rect S2x256x256 := Rect.unit (s := S2x256x256) ![0, 0, 0] S1x256x256.size inb_S2x256x256_S1x256x256_0_0_0
abbrev rS1 : Rect S2x256x256 := Rect.unit (s := S2x256x256) ![1, 0, 0] S1x256x256.size inb_S2x256x256_S1x256x256_1_0_0
/-- and 256 rows of a block of 512. -/
abbrev rH (o : Fin S2x512x256.rank → ℕ) (h : ∀ a, o a + S1x256x256.size a ≤ S2x512x256.size a) : Rect S2x512x256 :=
  Rect.unit (s := S2x512x256) o S1x256x256.size h

abbrev tall0 (b : Memref sig .tc .vmem S2x512x256 .bf16) : Memref sig .tc .vmem S512x256 .bf16 :=
  (b.slice rT0 (fun _ => rfl)).squeeze S512x256 squeezes_S1x512x256_S512x256
abbrev tall1 (b : Memref sig .tc .vmem S2x512x256 .bf16) : Memref sig .tc .vmem S512x256 .bf16 :=
  (b.slice rT1 (fun _ => rfl)).squeeze S512x256 squeezes_S1x512x256_S512x256
abbrev small0 (b : Memref sig .tc .vmem S2x256x256 .bf16) : Memref sig .tc .vmem S256x256 .bf16 :=
  (b.slice rS0 (fun _ => rfl)).squeeze S256x256 squeezes_S1x256x256_S256x256
abbrev small1 (b : Memref sig .tc .vmem S2x256x256 .bf16) : Memref sig .tc .vmem S256x256 .bf16 :=
  (b.slice rS1 (fun _ => rfl)).squeeze S256x256 squeezes_S1x256x256_S256x256
abbrev rows (b : Memref sig .tc .vmem S2x512x256 .bf16) (o : Fin S2x512x256.rank → ℕ)
    (h : ∀ a, o a + S1x256x256.size a ≤ S2x512x256.size a) : Memref sig .tc .vmem S256x256 .bf16 :=
  (b.slice (rH o h) (fun _ => rfl)).squeeze S256x256 squeezes_S1x256x256_S256x256

/-- Rows at equal offsets are the same rows. -/
theorem rows_congr (b : Memref sig .tc .vmem S2x512x256 .bf16) {o o' : Fin S2x512x256.rank → ℕ} (e : o = o') (h h') :
    rows b o h = rows b o' h' := by subst e; rfl

theorem off8_eq (c : Dev nD) : k0_off8 c = k0_off9 c := by
  rw [k0_off8_eq, k0_off9_eq]
theorem off11_eq (c : Dev nD) : k0_off11 c = k0_off12 c := by
  rw [k0_off11_eq, k0_off12_eq]
theorem off13_eq (c : Dev nD) : k0_off13 c = k0_off9 (peer (via 2) c) := by
  rw [k0_off13_eq, k0_off9_eq]; revert c; decide
theorem off14_eq (c : Dev nD) : k0_off14 c = k0_off12 (peer (via 6) c) := by
  rw [k0_off14_eq, k0_off12_eq]; revert c; decide

/-! ## What the buffers hold -/

/-- The four inputs as the devices see them. -/
structure Feeds (F : FTy → Type) where
  x : Dev nD → S1024x256.Idx → Elt F .f32
  g : Dev nD → S256x16.Idx → Elt F .f32
  i : Dev nD → S1024x2.Idx → Elt F .i32
  w : Dev nD → S4x256x512.Idx → Elt F .f32

/-- An array read on a rectangle. -/
abbrev rd {s : Shape} {e : EltTy} (X : s.Idx → Elt F e) (r : Rect s) : r.shape.Idx → Elt F e := fun j => X (r.emb j)

section Contents
variable (I : Feeds F) (c : Dev nD)

/-- The device's number as the kernel computes with it. -/
def num : BitVec 32 := Scalar.remsi (Scalar.divsi (Dev.word c) 1#32) 4#32
/-- The tokens, their router probabilities, the two columns of chosen experts. -/
def tok : FVec F S1024x256 .f32 := k0_pay2 (rd (I.x c) rX)
def prob : FVec F S1024x16 .f32 := k0_pay3 (rd (I.x c) rX) (rd (I.g c) rG)
def pick0 : IVec S1024x1 32 := k0_pay4 (rd (I.i c) rI0)
def col1 : S1024x1.Idx → Elt F .i32 := rd (I.i c) rI1
def pick1 : IVec S1024x1 32 := k0_pay5 (F := F) (col1 I c)
def gate0 : FVec F S1024x1 .f32 := k0_pay6 (prob I c) (pick0 I c)
def gate1 : FVec F S1024x1 .f32 := k0_pay7 (prob I c) (col1 I c)
def gates : FVec F S1024x1 .f32 := k0_pay8 (prob I c) (pick0 I c) (col1 I c)
/-- The tokens scaled for each of the device's four experts. -/
def lane0 : FVec F S1024x256 .bf16 := k0_pay9 (num c) (tok I c) (prob I c) (pick0 I c) (col1 I c)
def lane1 : FVec F S1024x256 .bf16 := k0_pay10 (num c) (tok I c) (prob I c) (pick0 I c) (col1 I c)
def lane2 : FVec F S1024x256 .bf16 := k0_pay11 (num c) (tok I c) (pick0 I c) (pick1 I c) (gate0 I c) (gate1 I c) (gates I c)
def lane3 : FVec F S1024x256 .bf16 := k0_pay12 (num c) (tok I c) (pick0 I c) (pick1 I c) (gate0 I c) (gate1 I c) (gates I c)
def wts : S4x256x512.Idx → Elt F .f32 := rd (I.w c) rW
def wtsB : FVec F S4x256x512 .bf16 := k0_pay13 (wts I c)
/-- The device's own part of the result, left and right half of the columns. -/
def left : FVec F S1024x256 .f32 := k0_pay14 (lane0 I c) (lane1 I c) (lane2 I c) (lane3 I c) (wts I c)
def right : FVec F S1024x256 .f32 := k0_pay17 (lane0 I c) (lane1 I c) (lane2 I c) (lane3 I c) (wtsB I c)

/-- The result buffer once both halves are stored. -/
def res0 : S1024x512.Idx → Elt F .f32 :=
  put (put (fun _ => I.x c (fun a => ⟨0, by revert a; decide⟩)) rA (left I c)) rB (right I c)
/-- What is sent first, for the left half and for the right. -/
def sent0 : S512x256.Idx → Elt F .bf16 :=
  thin (r := rT0) squeezes_S1x512x256_S512x256 (k0_pay16 (k0_pay15 (rd (res0 I c) (rO1 c))))
def sent4 : S512x256.Idx → Elt F .bf16 :=
  thin (r := rT1) squeezes_S1x512x256_S512x256 (k0_pay18 (rd (res0 I c) (rO2 c)))
end Contents

section Contents2
variable (I : Feeds F) (c : Dev nD)

/-- What arrived in a tall or a small slot, or in rows of a tall one. -/
abbrev gotT (X : S512x256.Idx → Elt F .bf16) : S1x512x256.Idx → Elt F .bf16 := flat (r := rT0) squeezes_S1x512x256_S512x256 X
abbrev gotS (X : S256x256.Idx → Elt F .bf16) : S1x256x256.Idx → Elt F .bf16 := flat (r := rS0) squeezes_S1x256x256_S256x256 X
abbrev putS (X : S1x256x256.Idx → Elt F .bf16) : S256x256.Idx → Elt F .bf16 := thin (r := rS0) squeezes_S1x256x256_S256x256 X

/-- The result after the first exchange of the left half; -/
def res1 : S1024x512.Idx → Elt F .f32 :=
  put (res0 I c) (rO3 c) (k0_pay19 (rd (res0 I c) (rO3 c)) (gotT (sent0 I (peer (via 0) c))))
def sent1 : S256x256.Idx → Elt F .bf16 := putS (k0_pay20 (rd (res1 I c) (rO4 c)))
/-- of the right half; -/
def res2 : S1024x512.Idx → Elt F .f32 :=
  put (res1 I c) (rO5 c) (k0_pay21 (rd (res1 I c) (rO5 c)) (gotT (sent4 I (peer (via 4) c))))
def sent5 : S256x256.Idx → Elt F .bf16 := putS (k0_pay22 (rd (res2 I c) (rO6 c)))
/-- after the second exchange of the left half, -/
def res3 : S1024x512.Idx → Elt F .f32 :=
  put (res2 I c) (rO7 c) (k0_pay23 (rd (res2 I c) (rO7 c)) (gotS (sent1 I (peer (via 1) c))))
def sent2 : S256x256.Idx → Elt F .bf16 :=
  putS (k0_pay25 (k0_pay24 (rd (res2 I c) (rO7 c)) (gotS (sent1 I (peer (via 1) c)))))
/-- of the right half; -/
def res4 : S1024x512.Idx → Elt F .f32 :=
  put (res3 I c) (rO10 c) (k0_pay26 (rd (res3 I c) (rO10 c)) (gotS (sent5 I (peer (via 5) c))))
def sent6 : S256x256.Idx → Elt F .bf16 :=
  putS (k0_pay27 (rd (res3 I c) (rO10 c)) (gotS (sent5 I (peer (via 5) c))))
/-- after the third; -/
def res5 : S1024x512.Idx → Elt F .f32 := put (res4 I c) (rO4 c) (k0_pay28 (gotS (sent2 I (peer (via 2) c))))
def res6 : S1024x512.Idx → Elt F .f32 := put (res5 I c) (rO6 c) (k0_pay29 (gotS (sent6 I (peer (via 6) c))))
/-- The gathered half of the rows, for each half of the columns: the device's own 256 rows and its partner's. -/
def half0 : S2x512x256.Idx → Elt F .bf16 :=
  put (put (fun _ => sent2 I c (fun a => ⟨0, by revert a; decide⟩)) (rH (k0_off9 c) (k0_off9_inb c)) (gotS (sent2 I c)))
    (rH (k0_off9 (peer (via 2) c)) (k0_off9_inb _)) (gotS (sent2 I (peer (via 2) c)))
def half1 : S2x512x256.Idx → Elt F .bf16 :=
  put (put (fun _ => sent6 I c (fun a => ⟨0, by revert a; decide⟩)) (rH (k0_off12 c) (k0_off12_inb c)) (gotS (sent6 I c)))
    (rH (k0_off12 (peer (via 6) c)) (k0_off12_inb _)) (gotS (sent6 I (peer (via 6) c)))
def sent3 : S512x256.Idx → Elt F .bf16 := thin (r := rT0) squeezes_S1x512x256_S512x256 (rd (half0 I c) rT0)
def sent7 : S512x256.Idx → Elt F .bf16 := thin (r := rT1) squeezes_S1x512x256_S512x256 (rd (half1 I c) rT1)
/-- after the fourth, which ends with the whole result. -/
def res7 : S1024x512.Idx → Elt F .f32 := put (res6 I c) (rO1 c) (k0_pay30 (gotT (sent3 I (peer (via 3) c))))
def res8 : S1024x512.Idx → Elt F .f32 := put (res7 I c) (rO2 c) (k0_pay1 (gotT (sent7 I (peer (via 7) c))))
end Contents2

/-! ## The semaphores and their schedule -/

abbrev barS : Sem sig := (SemArray.scalar (sig.barrier 0 rfl) : Sems sig S_).sem
def sendS (k : Fin 8) : DmaSem sig := ⟨5 + k.val, by have := k.isLt; show _ < 21; omega⟩
def recvS (k : Fin 8) : DmaSem sig := ⟨13 + k.val, by have := k.isLt; show _ < 21; omega⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- The bytes a transfer of 512 and one of 256 rows counts. -/
def bigN : ℕ := (tall0 in1).view.dmaCredit
def smallN : ℕ := (small0 in2).view.dmaCredit
def amtAt (n : ℕ) : ℕ := if n % 4 = 0 ∨ n % 4 = 3 then bigN else smallN
abbrev amt (k : Fin 8) : ℕ := amtAt k.val

theorem amtAt_pos (n : ℕ) : 0 < amtAt n := by
  unfold amtAt
  split
  · exact View.dmaCredit_pos _ (by decide)
  · exact View.dmaCredit_pos _ (by decide)

/-- Where transfer `k` of device `c` lands: some contents, on the partner. -/
def land (k : Fin 8) (c : Dev nD) : sProp 𝕄 :=
  match k with
  | 0 => has ((peer (via 0) c : Dev nD) : Thread nD τ) (tall0 in1)
  | 1 => has ((peer (via 1) c : Dev nD) : Thread nD τ) (small0 in2)
  | 2 => has ((peer (via 2) c : Dev nD) : Thread nD τ) (rows near (k0_off9 c) (k0_off9_inb c))
  | 3 => has ((peer (via 3) c : Dev nD) : Thread nD τ) (tall0 far)
  | 4 => has ((peer (via 4) c : Dev nD) : Thread nD τ) (tall1 in1)
  | 5 => has ((peer (via 5) c : Dev nD) : Thread nD τ) (small1 in2)
  | 6 => has ((peer (via 6) c : Dev nD) : Thread nD τ) (rows near (k0_off12 c) (k0_off12_inb c))
  | 7 => has ((peer (via 7) c : Dev nD) : Thread nD τ) (tall1 far)

section Sched
variable (I : Feeds F)

/-- What device `c` has back once transfer `k` has left: the slot it was sent from. -/
def sendPay (k : Fin 8) (c : Dev nD) : sProp 𝕄 :=
  match k with
  | 0 => owns (c : Thread nD τ) (tall0 out1) fullShare (sent0 I c)
  | 1 => owns (c : Thread nD τ) (small0 out2) fullShare (sent1 I c)
  | 2 => owns (c : Thread nD τ) (rows near (k0_off9 c) (k0_off9_inb c)) fullShare (sent2 I c)
  | 3 => owns (c : Thread nD τ) (tall0 near) fullShare (sent3 I c)
  | 4 => owns (c : Thread nD τ) (tall1 out1) fullShare (sent4 I c)
  | 5 => owns (c : Thread nD τ) (small1 out2) fullShare (sent5 I c)
  | 6 => owns (c : Thread nD τ) (rows near (k0_off12 c) (k0_off12_inb c)) fullShare (sent6 I c)
  | 7 => owns (c : Thread nD τ) (tall1 near) fullShare (sent7 I c)

/-- What transfer `k` of device `s` leaves on the device `d` it goes to. -/
def brought (k : Fin 8) (s d : Dev nD) : sProp 𝕄 :=
  match k with
  | 0 => owns (d : Thread nD τ) (tall0 in1) fullShare (sent0 I s)
  | 1 => owns (d : Thread nD τ) (small0 in2) fullShare (sent1 I s)
  | 2 => owns (d : Thread nD τ) (rows near (k0_off9 s) (k0_off9_inb s)) fullShare (sent2 I s)
  | 3 => owns (d : Thread nD τ) (tall0 far) fullShare (sent3 I s)
  | 4 => owns (d : Thread nD τ) (tall1 in1) fullShare (sent4 I s)
  | 5 => owns (d : Thread nD τ) (small1 in2) fullShare (sent5 I s)
  | 6 => owns (d : Thread nD τ) (rows near (k0_off12 s) (k0_off12_inb s)) fullShare (sent6 I s)
  | 7 => owns (d : Thread nD τ) (tall1 far) fullShare (sent7 I s)

/-- What device `c` has once transfer `k` from its partner has arrived. -/
def recvPay (k : Fin 8) (c : Dev nD) : sProp 𝕄 := brought I k (peer (via k) c) c

/-- The slots device `c` sends into on its partner `b`: what that partner's signal on the barrier hands over. -/
def barPay (b : Bool) (c : Dev nD) : sProp 𝕄 :=
  if b then iprop(land 1 c ∗ land 2 c ∗ land 4 c ∗ land 7 c) else iprop(land 0 c ∗ land 3 c ∗ land 5 c ∗ land 6 c)

/-- What the DMA semaphore of number `n` hands over. -/
def dmaPay (n : ℕ) (c : Dev nD) : sProp 𝕄 :=
  if h : 13 ≤ n ∧ n < 21 then recvPay I ⟨n - 13, by omega⟩ c
  else if h : 5 ≤ n ∧ n < 13 then sendPay I ⟨n - 5, by omega⟩ c else iprop(emp)

instance land_storable (k : Fin 8) (c : Dev nD) : BI.Storable (upEmb : UEmb _ 𝕄) (land (F := F) k c) := by
  unfold land; split <;> infer_instance
instance sendPay_storable (k : Fin 8) (c : Dev nD) : BI.Storable (upEmb : UEmb _ 𝕄) (sendPay I k c) := by
  unfold sendPay; split <;> infer_instance
instance brought_storable (k : Fin 8) (s d : Dev nD) : BI.Storable (upEmb : UEmb _ 𝕄) (brought I k s d) := by
  unfold brought; split <;> infer_instance
instance recvPay_storable (k : Fin 8) (c : Dev nD) : BI.Storable (upEmb : UEmb _ 𝕄) (recvPay I k c) := by
  unfold recvPay; infer_instance
instance barPay_storable (b : Bool) (c : Dev nD) : BI.Storable (upEmb : UEmb _ 𝕄) (barPay (F := F) b c) := by
  unfold barPay; split <;> infer_instance
instance dmaPay_storable (n : ℕ) (c : Dev nD) : BI.Storable (upEmb : UEmb _ 𝕄) (dmaPay I n c) := by
  unfold dmaPay; split
  · infer_instance
  split <;> infer_instance

/-- One round: a barrier is paid one unit by each partner, a send or a receive semaphore the bytes of its transfer. -/
def plan : Rounds.Schedule (GSem nD τ sig) Bool 𝕄 where
  duties g r := if r = 0 ∧ g.1.2 = .tc then
      (match g.2 with
        | .reg s => if s = barS then Finset.univ else ∅
        | .dma q => if 5 ≤ q.val then {false} else ∅)
    else ∅
  unitless _ := False
  amount g _ _ := match g.2 with
    | .reg _ => 1
    | .dma q => amtAt (q.val + 3)
  payload g _ b := match g.2 with
    | .reg _ => barPay b g.1.1
    | .dma q => dmaPay I q.val g.1.1
  amount_pos g _ _ _ := by
    rcases g with ⟨t, s | q⟩
    · exact Nat.one_pos
    · exact amtAt_pos _

instance plan_storable (g : GSem nD τ sig) (r : ℕ) (b : Bool) :
    BI.Storable (upEmb : UEmb _ 𝕄) ((plan I).payload g r b) := by
  rcases g with ⟨t, s | q⟩
  · exact barPay_storable b t.1
  · exact dmaPay_storable I q.val t.1

variable (c : Dev nD) (k : Fin 8)

theorem duties_bar : (plan I).duties (barCell c) 0 = Finset.univ := rfl
theorem duties_send : (plan I).duties (sendCell c k) 0 = {false} := by
  show (if 0 = 0 ∧ ((c : Thread nD τ).2 = .tc) then (if 5 ≤ 5 + k.val then ({false} : Finset Bool) else ∅) else ∅) = _
  rw [if_pos ⟨rfl, rfl⟩, if_pos (by omega)]
theorem duties_recv : (plan I).duties (recvCell c k) 0 = {false} := by
  show (if 0 = 0 ∧ ((c : Thread nD τ).2 = .tc) then (if 5 ≤ 13 + k.val then ({false} : Finset Bool) else ∅) else ∅) = _
  rw [if_pos ⟨rfl, rfl⟩, if_pos (by omega)]
theorem duties_later (g : GSem nD τ sig) : ∀ r, 0 + 1 ≤ r → (plan I).duties g r = ∅ :=
  fun r hr => if_neg fun h => by omega

theorem amount_bar (b : Bool) : (plan I).amount (barCell c) 0 b = 1 := rfl
theorem amount_send (b : Bool) : (plan I).amount (sendCell c k) 0 b = amt k := by
  show amtAt (5 + k.val + 3) = amtAt k.val
  unfold amtAt; rw [show (5 + k.val + 3) % 4 = k.val % 4 by omega]
theorem amount_recv (b : Bool) : (plan I).amount (recvCell c k) 0 b = amt k := by
  show amtAt (13 + k.val + 3) = amtAt k.val
  unfold amtAt; rw [show (13 + k.val + 3) % 4 = k.val % 4 by omega]

theorem expect_bar : (plan I).expect (barCell c) 0 = 2 := by
  unfold Schedule.expect Schedule.amountOf
  rw [duties_bar, Finset.sum_congr rfl fun d _ => amount_bar I c d, Finset.sum_const, Finset.card_univ, Fintype.card_bool, smul_eq_mul]
theorem expect_send : (plan I).expect (sendCell c k) 0 = amt k := by
  unfold Schedule.expect Schedule.amountOf; rw [duties_send, Finset.sum_singleton, amount_send]
theorem expect_recv : (plan I).expect (recvCell c k) 0 = amt k := by
  unfold Schedule.expect Schedule.amountOf; rw [duties_recv, Finset.sum_singleton, amount_recv]

theorem payload_bar (b : Bool) : (plan I).payload (barCell c) 0 b = barPay b c := rfl
theorem payload_send (b : Bool) : (plan I).payload (sendCell c k) 0 b = sendPay I k c := by
  show dmaPay I (5 + k.val) c = _
  unfold dmaPay
  rw [dif_neg (by have := k.isLt; omega), dif_pos (by have := k.isLt; omega)]
  congr 1; exact Fin.ext (by show 5 + k.val - 5 = k.val; omega)
theorem payload_recv (b : Bool) : (plan I).payload (recvCell c k) 0 b = recvPay I k c := by
  show dmaPay I (13 + k.val) c = _
  unfold dmaPay
  rw [dif_pos (by have := k.isLt; omega)]
  congr 1; exact Fin.ext (by show 13 + k.val - 13 = k.val; omega)

/-- All a barrier's round brings: the slots on both partners. -/
theorem rest_bar : bigSep ((plan I).duties (barCell c) 0 \ ∅) (fun b => (plan I).payload (barCell c) 0 b)
    = iprop(barPay false c ∗ barPay true c) := by
  rw [Finset.sdiff_empty, duties_bar, bigSep_univ_eq_bigSepL [false, true] (by decide) (by decide), bigSepL_cons_cons, bigSepL_singleton,
    payload_bar, payload_bar]
  rfl
theorem rest_send : bigSep ((plan I).duties (sendCell c k) 0 \ ∅) (fun b => (plan I).payload (sendCell c k) 0 b) = sendPay I k c := by
  rw [Finset.sdiff_empty, duties_send, bigSep_singleton, payload_send]
theorem rest_recv : bigSep ((plan I).duties (recvCell c k) 0 \ ∅) (fun b => (plan I).payload (recvCell c k) 0 b) = recvPay I k c := by
  rw [Finset.sdiff_empty, duties_recv, bigSep_singleton, payload_recv]

end Sched

/-! ## What is owed, and in which order it may be waited for -/

/-- The transfers still to be made, as what they will bring the partners' receive semaphores. -/
def dues (c : Dev nD) : List (Fin 8) → CellTallies nD τ sig Unit
  | [] => 0
  | k :: l => dues c l + tallyAt (recvCell (peer (via k) c) k) () (amt k)

/-- The order of the transfers. -/
abbrev order : List (Fin 8) := [0, 4, 1, 5, 2, 6, 3, 7]

/-- What a device owes at the start: all its transfers and a signal to each partner. -/
def debt (c : Dev nD) : CellTallies nD τ sig Unit :=
  (dues c order + tallyAt (barCell (peer true c)) () 1) + tallyAt (barCell (peer false c)) () 1

def L (g : GSem nD τ sig) : Finset Unit := if g.1.2 = .tc then {()} else ∅
/-- Barriers come first, then the receive semaphores by exchange. -/
def lv (g : GSem nD τ sig) (_ : Unit) : ℕ :=
  match g.2 with
  | .reg _ => 1
  | .dma q => if 13 ≤ q.val then 2 + (q.val + 3) % 4 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 8) : lv (recvCell c k) () = 2 + k.val % 4 := by
  show (if 13 ≤ 13 + k.val then 2 + (13 + k.val + 3) % 4 else 0) = _
  rw [if_pos (by omega)]; omega
theorem lv_send (c : Dev nD) (k : Fin 8) : lv (sendCell c k) () = 0 := by
  show (if 13 ≤ 5 + k.val then 2 + (5 + k.val + 3) % 4 else 0) = _
  rw [if_neg (by have := k.isLt; omega)]

/-- Something owed is owed for one of the transfers listed. -/
theorem dues_pos {c : Dev nD} {l : List (Fin 8)} {g : GSem nD τ sig} {u : Unit} (h : 0 < dues c l g u) :
    ∃ k ∈ l, g = recvCell (peer (via k) c) k := by
  induction l with
  | nil => exact absurd h (Nat.lt_irrefl 0)
  | cons k l ih =>
    unfold dues at h
    rw [Pi.add_apply, Finsupp.add_apply, tallyAt_apply] at h
    by_cases e : g = recvCell (peer (via k) c) k ∧ u = ()
    · exact ⟨k, List.mem_cons_self, e.1⟩
    · rw [if_neg e, Nat.add_zero] at h
      obtain ⟨k', hk, hg⟩ := ih h
      exact ⟨k', List.mem_cons_of_mem _ hk, hg⟩

/-- A device may wait for a semaphore that comes before every transfer it still owes. -/
theorem mayWait_dues (c : Dev nD) (sm : SemLoc sig) (l : List (Fin 8))
    (h : ∀ k ∈ l, lv ((c : Thread nD τ), sm) () < 2 + k.val % 4) :
    (levAts L lv : sProp 𝕄) ⊢ MayWait (c : Thread nD τ) sm () (dues c l) :=
  MayOwe.of_cut (L := L) (lev := lv) (lv ((c : Thread nD τ), sm) ())
    (fun p hp => by rw [Finset.mem_singleton.mp hp, L_tc]; exact Finset.mem_singleton_self _)
    (fun g u hg => by obtain ⟨k, -, rfl⟩ := dues_pos hg; rw [L_tc]; exact Finset.mem_singleton_self _)
    (fun p hp => by rw [Finset.mem_singleton.mp hp])
    (fun g u hg => by obtain ⟨k, hk, rfl⟩ := dues_pos hg; rw [lv_recv]; exact h k hk)

theorem debt_pos {c : Dev nD} {g : GSem nD τ sig} {u : Unit} (h : 0 < debt c g u) :
    (∃ k, g = recvCell (peer (via k) c) k) ∨ ∃ d : Dev nD, g = barCell d := by
  unfold debt at h
  rw [Pi.add_apply, Finsupp.add_apply, Pi.add_apply, Finsupp.add_apply, tallyAt_apply, tallyAt_apply] at h
  by_cases h₁ : g = barCell (peer true c) ∧ u = ()
  · exact .inr ⟨_, h₁.1⟩
  by_cases h₂ : g = barCell (peer false c) ∧ u = ()
  · exact .inr ⟨_, h₂.1⟩
  rw [if_neg h₁, if_neg h₂, Nat.add_zero] at h
  obtain ⟨k, -, hk⟩ := dues_pos h
  exact .inl ⟨k, hk⟩

/-- The waits for the operands' own copies come before everything owed at the start. -/
theorem mayWait_stage (c : Dev nD) (q : DmaSem sig) (hq : lv ((c : Thread nD τ), .dma q) () = 0)
    (O : CellTallies nD τ sig Unit) (hO : O = debt c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases debt_pos hg with ⟨k, rfl⟩ | ⟨d, rfl⟩ <;> exact Finset.mem_singleton_self _)
      (fun p hp => by rw [Finset.mem_singleton.mp hp]; exact le_of_eq hq)
      (fun g u hg => by
        rcases debt_pos hg with ⟨k, rfl⟩ | ⟨d, rfl⟩
        · rw [lv_recv]; omega
        · exact Nat.one_pos)
  · rw [MayWait_zero]; iintro -; iempintro

end Cert.KernelIdeal.Wave
-- ==== Proof.KernelIdeal.Steps.lean ====
/-
The steps of the kernel, each stated once for every transfer: sending, waiting for a send, waiting for an arrival,
signalling a partner and waiting at the barrier.
-/
module

public import proofs.«01_k».proof.Proof.KernelIdeal.Protocol

@[expose] public section

noncomputable section

namespace Cert.KernelIdeal.Wave

open Cert.KernelIdeal Cert.KernelIdeal.Gen Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- All semaphores of a device: the barrier, then the eight send and the eight receive semaphores. -/
def csem (i : Fin 17) : SemLoc sig :=
  if i.val = 0 then .reg barS else .dma ⟨4 + i.val, by have := i.isLt; show _ < 21; omega⟩
abbrev kcell (p : Dev nD × Fin 17) : GSem nD τ sig := ((p.1 : Thread nD τ), csem p.2)

def iSend (k : Fin 8) : Fin 17 := ⟨1 + k.val, by have := k.isLt; omega⟩
def iRecv (k : Fin 8) : Fin 17 := ⟨9 + k.val, by have := k.isLt; omega⟩

theorem kcell_bar (c : Dev nD) : kcell (c, 0) = barCell c := rfl
theorem kcell_send (c : Dev nD) (k : Fin 8) : kcell (c, iSend k) = sendCell c k := by
  unfold kcell csem iSend sendCell sendS
  rw [if_neg (by show ¬ 1 + k.val = 0; omega)]
  congr 3; show 4 + (1 + k.val) = 5 + k.val; omega
theorem kcell_recv (c : Dev nD) (k : Fin 8) : kcell (c, iRecv k) = recvCell c k := by
  unfold kcell csem iRecv recvCell recvS
  rw [if_neg (by show ¬ 9 + k.val = 0; omega)]
  congr 3; show 4 + (9 + k.val) = 13 + k.val; omega

/-- What a device owes: `O`, whatever it has waited for so far. -/
def owing (c : Dev nD) (O : CellTallies nD τ sig Unit) : sProp 𝕄 := iprop(∃ W, owes (c : Thread nD τ) O W)

section Steps
variable (I : Feeds F) (K : Dev nD × Fin 17 → ℕ)

/-- What never changes: the schedule's invariant at every semaphore, and that every semaphore's round has begun. -/
def records : sProp 𝕄 :=
  iprop((bigSep Finset.univ fun p : Dev nD × Fin 17 => cellInv ER (plan I) (K p) (kcell p))
    ∗ (bigSep Finset.univ fun p : Dev nD × Fin 17 => reached ER (kcell p) 0) ∗ levAts L lv)

instance records_persistent : BI.Persistent (records I K) := by
  unfold records; infer_instance

theorem rec_inv {p : Dev nD × Fin 17} {g : GSem nD τ sig} (h : kcell p = g) :
    (records I K : sProp 𝕄) ⊢ cellInv ER (plan I) (K p) g := by
  subst h
  unfold records
  iintro ⟨H, -, -⟩
  have h : (bigSep Finset.univ fun p : Dev nD × Fin 17 => (cellInv ER (plan I) (K p) (kcell p) : sProp 𝕄))
      ⊢ cellInv ER (plan I) (K p) (kcell p) := bigSep_elim (Finset.mem_univ p)
  iapply h; iexact H
theorem rec_reached {p : Dev nD × Fin 17} {g : GSem nD τ sig} (h : kcell p = g) :
    (records I K : sProp 𝕄) ⊢ reached ER g 0 := by
  subst h
  unfold records
  iintro ⟨-, H, -⟩
  have h : (bigSep Finset.univ fun p : Dev nD × Fin 17 => (reached ER (kcell p) 0 : sProp 𝕄)) ⊢ reached ER (kcell p) 0 :=
    bigSep_elim (Finset.mem_univ p)
  iapply h; iexact H
theorem rec_lev : (records I K : sProp 𝕄) ⊢ levAts L lv := by
  unfold records
  iintro ⟨-, -, H⟩
  iexact H

/-- What a device holds to make transfer `k`: the right to raise both ends, and its place at its send semaphore. -/
def ready (c : Dev nD) (k : Fin 8) : sProp 𝕄 :=
  iprop(dutyTok ER (sendCell c k) 0 false ∗ dutyTok ER (recvCell (peer (via k) c) k) 0 false ∗ atPos ER (sendCell c k) 0 ∅ 0)
/-- Transfer `k` is under way. -/
def flying (c : Dev nD) (k : Fin 8) : sProp 𝕄 :=
  iprop(cred (tallyAt (sendCell c k) () (amt k)) ∗ atPos ER (sendCell c k) 0 ∅ 0)
/-- Transfer `k` of the partner is awaited. -/
def hearing (c : Dev nD) (k : Fin 8) : sProp 𝕄 :=
  iprop(cred (tallyAt (recvCell c k) () (amt k)) ∗ atPos ER (recvCell c k) 0 ∅ 0)

variable {α : Type} {Q : α → sProp (MT nD τ sig Unit (Elt F) ℕ UU ℕ)}

/-- Transfer `k` is started: the device gives up the slot it sends from and the one it lands in, and owes it no more. -/
theorem send_step (c : Dev nD) (k : Fin 8) (l : List (Fin 8)) {n : Dev nD} (hn : n = peer (via k) c) {s : Shape}
    {src dst : Memref sig .tc .vmem s .bf16} {sS sR : DmaSem sig} (hS : sS = sendS k) (hR : sR = recvS k)
    (X : s.Idx → Elt F .bf16)
    (hp₁ : sendPay I k c = owns (c : Thread nD τ) src fullShare X)
    (hp₂ : brought I k c n = owns (n : Thread nD τ) dst fullShare X)
    (hN : dst.view.amount (.dma sR : SemLoc sig) = amt k)
    {hsc : (dst : Memref sig (Dev.tc n : Thread nD τ).2.kind .vmem s .bf16).view.ref.isScScratch = false}
    {hsrc : src.view.WordExact} {hdst : dst.view.WordExact}
    {hsem : DmaTarget.Typed .vmem (.dma sR) (.remote (Dev.tc n : Thread nD τ) dst (.dma sS) hsc)}
    {k' : PUnit → Prog (TpuEff nD τ sig (Elt F) Λ₀ .tc) α} :
    iprop(records I K ∗ owing c (dues c (k :: l)) ∗ ready c k
        ∗ owns (c : Thread nD τ) src fullShare X ∗ has (n : Thread nD τ) dst)
      ⊢ iprop((flying c k ∗ owing c (dues c l)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k') Q) := by
  subst hn hS hR
  unfold owing
  iintro ⟨#HR, ⟨%W, HO⟩, HT, HX, HD⟩ Hk
  unfold ready owns has owns
  icases HT with ⟨Ht1, Ht2, Hat⟩
  icases HX with ⟨%f, %hf, HX⟩
  icases HD with ⟨%Y, %g, %hg, HD⟩
  iapply (Rounds.wp_send_pointsTo 𝒱₀ ER (plan I) (c : Thread nD τ) none (κ₁ := K (c, iSend k)) (κ₂ := K (peer (via k) c, iRecv k))
    (r₁ := 0) (r₂ := 0) (d₁ := false) (d₂ := false) (fs := f) (fd := g)
    (by rw [duties_send]; exact Finset.mem_singleton_self _) (by rw [duties_recv]; exact Finset.mem_singleton_self _)
    () () (amt k) hN (amount_send I c k false) (amount_recv I _ k false) (dues c l) rfl (W := W)
    (by
      rw [payload_send, hp₁]; unfold owns
      iintro H; iexists f; isplitr; · ipureintro; exact hf
      iexact H)
    (by
      rw [payload_recv]; unfold recvPay; rw [peer_peer, hp₂]; unfold owns
      iintro H; iexists _; isplitr
      swap
      · iexact H
      ipureintro; rw [View.read_write_univ]; exact hf)) $$ [HX HD HO Ht1 Ht2]
  · isplitr; · iapply (rec_inv I K (kcell_send _ _)); iexact HR
    isplitr; · iapply (rec_inv I K (kcell_recv _ _)); iexact HR
    isplitl [HX]; · iexact HX
    isplitl [HD]; · iexact HD
    isplitl [HO]; · iexact HO
    isplitl [Ht1]; · iexact Ht1
    isplitr; · iapply (rec_reached I K (kcell_send _ _)); iexact HR
    isplitl [Ht2]; · iexact Ht2
    iapply (rec_reached I K (kcell_recv _ _)); iexact HR
  iintro ⟨Hc, HO⟩
  iapply Hk
  isplitl [Hc Hat]
  · unfold flying; isplitl [Hc] <;> iassumption
  iexists W; iexact HO

/-- A wait for the whole round of one of the device's DMA semaphores brings what the round hands over, and the semaphore,
    now at rest, stays at zero. -/
theorem wait_step (c : Dev nD) (i : Fin 17) (sm : DmaSem sig) (hi : kcell (c, i) = ((c : Thread nD τ), .dma sm)) (l : List (Fin 8))
    (P : sProp 𝕄) (N : ℕ)
    (hl : ∀ k ∈ l, lv ((c : Thread nD τ), .dma sm) () < 2 + k.val % 4)
    (hE : (plan I).expect ((c : Thread nD τ), .dma sm) 0 = N)
    (hP : bigSep ((plan I).duties ((c : Thread nD τ), .dma sm) 0 \ ∅) (fun b => (plan I).payload ((c : Thread nD τ), .dma sm) 0 b) = P)
    {s s' : Shape} {e e' : EltTy} {sp sp' : Space} {src : Memref sig .tc sp s e} {dst : Memref sig .tc sp' s' e'}
    {hsrc : src.view.WordExact} {hdst : dst.view.WordExact}
    (hN : dst.view.dmaCredit = N)
    {k' : PUnit → Prog (TpuEff nD τ sig (Elt F) Λ₀ .tc) α} :
    iprop(records I K ∗ owing c (dues c l) ∗ cred (tallyAt ((c : Thread nD τ), .dma sm) () N) ∗ atPos ER ((c : Thread nD τ), .dma sm) 0 ∅ 0)
      ⊢ iprop((owing c (dues c l) ∗ semVal ((c : Thread nD τ), .dma sm) 0 ∗ P
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 sm src dst hsrc hdst) k') Q) := by
  subst hP
  unfold owing
  iintro ⟨#HR, ⟨%W, HO⟩, Hc, Hat⟩ Hk
  iapply (Rounds.wp_wait_rest_token 𝒱₀ ER (plan I) (c : Thread nD τ) none (κ := K (c, i))
      (wpE_waitDma2_eq 𝒱₀ (c : Thread nD τ) none Set.univ) (Set.mem_univ _) () (O := dues c l) (W := W) (R := 0) (m := 0) (T := ∅)
      (by rw [Nat.zero_add, hE]; exact hN)) $$ [HO Hc Hat]
  · isplitr; · iapply (rec_inv I K hi); iexact HR
    isplitl [Hc]; · rw [hN]; iexact Hc
    isplitl [HO]; · iexact HO
    isplitr; · iapply (mayWait_dues c _ l hl); iapply (rec_lev I K); iexact HR
    iexact Hat
  iintro ⟨HO, Hat, -, Hpay⟩
  imod (Rounds.cell_close ER (plan I) (Set.mem_univ (K (c, i))) (fun h => h) (R := 0 + 1) (duties_later I ((c : Thread nD τ), .dma sm))) $$ [Hat] with Hz
  · isplitr; · iapply (rec_inv I K hi); iexact HR
    iexact Hat
  iapply Hk
  isplitl [HO]; · iexists _; iexact HO
  isplitl [Hz] <;> iassumption

/-- The wait for transfer `k` to have left: the slot it was sent from is back. -/
theorem wait_sent (c : Dev nD) (k : Fin 8) (l : List (Fin 8)) {sm : DmaSem sig} (hs : sm = sendS k) (P : sProp 𝕄)
    (hP : sendPay I k c = P)
    {s s' : Shape} {e e' : EltTy} {sp sp' : Space} {src : Memref sig .tc sp s e} {dst : Memref sig .tc sp' s' e'}
    {hsrc : src.view.WordExact} {hdst : dst.view.WordExact} (hN : dst.view.dmaCredit = amt k)
    {k' : PUnit → Prog (TpuEff nD τ sig (Elt F) Λ₀ .tc) α} :
    iprop(records I K ∗ owing c (dues c l) ∗ flying c k)
      ⊢ iprop((owing c (dues c l) ∗ semVal (sendCell c k) 0 ∗ P
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 sm src dst hsrc hdst) k') Q) := by
  subst hs hP
  unfold flying
  exact wait_step I K c (iSend k) (sendS k) (kcell_send c k) l _ (amt k)
    (fun j _ => by rw [lv_send]; omega) (expect_send I c k) (rest_send I c k) hN

/-- The wait for transfer `k` of the partner to have arrived: the slot it arrived in, holding what was sent. -/
theorem wait_heard (c : Dev nD) (k : Fin 8) (l : List (Fin 8)) (hl : ∀ j ∈ l, k.val % 4 < j.val % 4) {sm : DmaSem sig}
    (hs : sm = recvS k) (P : sProp 𝕄) (hP : brought I k (peer (via k) c) c = P)
    {s s' : Shape} {e e' : EltTy} {sp sp' : Space} {src : Memref sig .tc sp s e} {dst : Memref sig .tc sp' s' e'}
    {hsrc : src.view.WordExact} {hdst : dst.view.WordExact} (hN : dst.view.dmaCredit = amt k)
    {k' : PUnit → Prog (TpuEff nD τ sig (Elt F) Λ₀ .tc) α} :
    iprop(records I K ∗ owing c (dues c l) ∗ hearing c k)
      ⊢ iprop((owing c (dues c l) ∗ semVal (recvCell c k) 0 ∗ P
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.waitDma2 sm src dst hsrc hdst) k') Q) := by
  subst hs hP
  unfold hearing
  exact wait_step I K c (iRecv k) (recvS k) (kcell_recv c k) l _ (amt k)
    (fun j hj => by rw [lv_recv]; have := hl j hj; omega) (expect_recv I c k) (rest_recv I c k) hN

/-- A signal to the partner `b` hands over the slots it sends into. -/
theorem signal_step (c : Dev nD) (b : Bool) {n : Dev nD} (hn : n = peer b c) (O : CellTallies nD τ sig Unit)
    {k' : PUnit → Prog (TpuEff nD τ sig (Elt F) Λ₀ .tc) α} {N : ℕ} (hN : N = 1) :
    iprop(records I K ∗ owing c (O + tallyAt (barCell (peer b c)) () 1) ∗ dutyTok ER (barCell (peer b c)) 0 b ∗ barPay b (peer b c))
      ⊢ iprop((owing c O -∗ wp frame (wpE (defs₀ (F := F)) 𝒱₀ (c : Thread nD τ) none) Set.univ (k' ⟨⟩) Q)
          -∗ wp frame (wpE (defs₀ (F := F)) 𝒱₀ (c : Thread nD τ) none) Set.univ
              (.op (.semSignal (n : Thread nD τ) barS N) k') Q) := by
  subst hn hN
  unfold owing
  iintro ⟨#HR, ⟨%W, HO⟩, Ht, HP⟩ Hk
  iapply (Rounds.wp_signal 𝒱₀ ER (plan I) (c : Thread nD τ) none (dst := ((peer b c : Dev nD) : Thread nD τ)) (κ := K (peer b c, 0))
      (d := b) (by rw [duties_bar]; exact Finset.mem_univ _) (amount_bar I (peer b c) b) () O rfl (W := W))
    $$ [HO Ht HP]
  · isplitr; · iapply (rec_inv I K (kcell_bar _)); iexact HR
    isplitl [HO]; · iexact HO
    isplitl [Ht]; · iexact Ht
    isplitl [HP]; · rw [payload_bar]; iexact HP
    iapply (rec_reached I K (kcell_bar _)); iexact HR
  iintro HO
  iapply Hk
  iexists W; iexact HO

/-- The wait at the barrier brings the slots on both partners that the device sends into. -/
theorem barrier_step (c : Dev nD) {k' : PUnit → Prog (TpuEff nD τ sig (Elt F) Λ₀ .tc) α} {N : ℕ} (hN : N = 2) :
    iprop(records I K ∗ owing c (dues c order) ∗ cred (tallyAt (barCell c) () 2) ∗ atPos ER (barCell c) 0 ∅ 0)
      ⊢ iprop((owing c (dues c order) ∗ semVal (barCell c) 0 ∗ barPay false c ∗ barPay true c
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.semWait barS N) k') Q) := by
  subst hN
  unfold owing
  iintro ⟨#HR, ⟨%W, HO⟩, Hc, Hat⟩ Hk
  iapply (Rounds.wp_wait_rest_token 𝒱₀ ER (plan I) (c : Thread nD τ) none (κ := K (c, 0))
      (wpE_semWait_eq 𝒱₀ (c : Thread nD τ) none Set.univ) (Set.mem_univ _) () (O := dues c order) (W := W) (R := 0) (m := 0) (T := ∅)
      (by rw [Nat.zero_add, expect_bar])) $$ [HO Hc Hat]
  · isplitr; · iapply (rec_inv I K (kcell_bar _)); iexact HR
    isplitl [Hc]; · iexact Hc
    isplitl [HO]; · iexact HO
    isplitr; · iapply (mayWait_dues c _ order (by intro k _; show 1 < _; omega)); iapply (rec_lev I K); iexact HR
    iexact Hat
  iintro ⟨HO, Hat, -, Hpay⟩
  imod (Rounds.cell_close ER (plan I) (Set.mem_univ (K (c, 0))) (fun h => h) (R := 0 + 1) (duties_later I (barCell c))) $$ [Hat] with Hz
  · isplitr; · iapply (rec_inv I K (kcell_bar _)); iexact HR
    iexact Hat
  ihave Hp := (Entails.of_eq (rest_bar I c)) $$ Hpay
  icases Hp with ⟨Hp1, Hp2⟩
  iapply Hk
  isplitl [HO]; · iexists _; iexact HO
  isplitl [Hz]; · iexact Hz
  isplitl [Hp1] <;> iassumption

end Steps

end Cert.KernelIdeal.Wave
-- ==== Proof.KernelIdeal.First.lean ====
/-
The kernel body, one lemma for each stretch of it: from what the device holds before the stretch to what it holds after.
First the start: the barrier, the loads of the inputs, the device's own part of the result and the first exchange sent.
-/
module

public import proofs.«01_k».proof.Proof.KernelIdeal.Steps

@[expose] public section

noncomputable section

namespace Cert.KernelIdeal.Wave

open Cert.KernelIdeal Cert.KernelIdeal.Gen Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The stretches of the body, at this kernel's buffers -/

abbrev run1  :=
  k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7
abbrev run2 (v2 : BitVec 32) (v17 : FVec F S1024x256 .f32) (v29 : FVec F S1024x16 .f32) (v31 : IVec S1024x1 32) :=
  k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v2 v17 v29 v31
abbrev run3 (v2 v4 v8 : BitVec 32) (v17 : FVec F S1024x256 .f32) (v31 v33 : IVec S1024x1 32) (v40 v46 v47 : FVec F S1024x1 .f32) :=
  k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 v2 v4 v8 v17 v31 v33 v40 v46 v47
abbrev run4 (d0 : Dev nD) (v4 v8 : BitVec 32) (v62 v77 v92 v107 : FVec F S1024x256 .bf16) (v110 v119 : BitVec 32) :=
  k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v4 v8 v62 v77 v92 v107 v110 v119
abbrev run5 (d0 : Dev nD) (v9 : BitVec 32) (v62 v77 v92 v107 : FVec F S1024x256 .bf16) (v121 : BitVec 32) (v132 : FVec F S4x256x512 .bf16) (v154 : FVec F S512x256 .bf16) :=
  k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v9 v62 v77 v92 v107 v121 v132 v154
abbrev run6 (d0 : Dev nD) (v9 v10 v108 : BitVec 32) (v192 : FVec F S1x512x256 .bf16) :=
  k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v9 v10 v108 v192
abbrev run7 (d0 : Dev nD) (v10 v108 v115 : BitVec 32) (v218 : Vec F S512x256 .f32) :=
  k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v10 v108 v115 v218
abbrev run8 (d0 : Dev nD) (v9 v10 v119 v126 : BitVec 32) :=
  k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v9 v10 v119 v126
abbrev run9 (d0 : Dev nD) (v10 v112 : BitVec 32) :=
  k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v10 v112
abbrev run10 (d0 : Dev nD) (v9 v10 v116 : BitVec 32) (v306 : FVec F S256x256 .bf16) :=
  k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v9 v10 v116 v306
abbrev run11 (d0 : Dev nD) (v9 v123 v127 : BitVec 32) :=
  k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v9 v123 v127
abbrev run12 (d0 : Dev nD) (v9 v10 v108 v118 : BitVec 32) :=
  k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v9 v10 v108 v118
abbrev run13 (d0 : Dev nD) (v9 v10 v119 v129 : BitVec 32) :=
  k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v9 v10 v119 v129
abbrev run14 (d0 : Dev nD) (v9 v10 v110 : BitVec 32) :=
  k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 d0 v9 v10 v110

/-- The device owns a buffer of its own and it holds `X`. -/
abbrev hold {sp : Space} {s : Shape} {e : EltTy} (c : Dev nD) (m : Memref sig .tc sp s e) (X : s.Idx → Elt F e) : sProp 𝕄 :=
  owns (c : Thread nD τ) m fullShare X
/-- The device owns a buffer of its own, whatever it holds. -/
abbrev free {sp : Space} {s : Shape} {e : EltTy} (c : Dev nD) (m : Memref sig .tc sp s e) : sProp 𝕄 :=
  has (c : Thread nD τ) m

/-! ## The columns the two stores cover -/

theorem mem_rA (i : S1024x512.Idx) : i ∈ rA.set ↔ (i 1).val < 256 := by
  rw [Rect.mem_set_unit]
  constructor
  · intro h; have := (h 1).2; simpa using this
  · intro h a
    fin_cases a
    · exact ⟨Nat.zero_le _, (i 0).isLt⟩
    · exact ⟨Nat.zero_le _, by simpa using h⟩

theorem mem_rB (i : S1024x512.Idx) : i ∈ rB.set ↔ 256 ≤ (i 1).val := by
  rw [Rect.mem_set_unit]
  constructor
  · intro h; exact (h 1).1
  · intro h a
    fin_cases a
    · exact ⟨Nat.zero_le _, (i 0).isLt⟩
    · exact ⟨h, (i 1).isLt⟩

/-- On the rectangle written the old contents do not matter. -/
theorem put_free {s : Shape} {e : EltTy} (X Y : s.Idx → Elt F e) (r : Rect s) (w : r.shape.Idx → Elt F e) {i : s.Idx} (h : i ∈ r.set) :
    put X r w i = put Y r w i := by
  rw [← Rect.map_emb_univ] at h
  obtain ⟨j, -, rfl⟩ := Finset.mem_map.mp h
  rw [put_emb, put_emb]

section Parts
variable (I : Feeds F) (K : Dev nD × Fin 17 → ℕ) (c : Dev nD)

/-- Transfer `k` sent, the receiving slot being the one the partner handed over. -/
theorem send (k : Fin 8) (l : List (Fin 8)) {n : Dev nD} (hn : n = peer (via k) c) {s : Shape}
    {src dst : Memref sig .tc .vmem s .bf16} {sS sR : DmaSem sig} (hS : sS = sendS k) (hR : sR = recvS k)
    (X : s.Idx → Elt F .bf16)
    (hp₁ : sendPay I k c = hold c src X) (hp₂ : brought I k c (peer (via k) c) = hold (peer (via k) c) dst X)
    (hd : land (F := F) k c = free (peer (via k) c) dst)
    (hN : dst.view.amount (.dma sR : SemLoc sig) = amt k)
    {hsc : (dst : Memref sig (Dev.tc n : Thread nD τ).2.kind .vmem s .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp (MT nD τ sig Unit (Elt F) ℕ UU ℕ)} {k' : PUnit → Prog (TpuEff nD τ sig (Elt F) Λ₀ .tc) α} :
    iprop(records I K ∗ owing c (dues c (k :: l)) ∗ ready c k ∗ hold c src X ∗ land k c)
      ⊢ iprop((flying c k ∗ owing c (dues c l)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k') Q) := by
  subst hn
  rw [hd]
  exact send_step I K c k l rfl hS hR X hp₁ hp₂ hN

/-- A store into a slot, what it then holds given a name. -/
theorem store_as {s s' : Shape} {e : EltTy} {m : Memref sig .tc .vmem s e} {r : Rect s} {hr : ∀ a, r.stride a = 1}
    (q : r.shape.Squeezes s') (X : s'.Idx → Elt F e) {w : r.shape.Idx → Elt F e} (hX : thin q w = X)
    {hx : (m.access r).Stores Finset.univ}
    {hm : (Finset.univ : Finset r.shape.Idx) = Finset.univ ∨ ∀ a, r.stride a = 1}
    {α : Type} {Q : α → sProp (MT nD τ sig Unit (Elt F) ℕ UU ℕ)} {k : PUnit → Prog (TpuEff nD τ sig (Elt F) Λ₀ .tc) α} :
    (free c ((m.slice r hr).squeeze s' q) : sProp 𝕄)
      ⊢ iprop((hold c ((m.slice r hr).squeeze s' q) X
            -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  subst hX
  exact store_slot 𝒱₀ (c : Thread nD τ) q

/-- A store into a whole buffer, what it then holds given a name. -/
theorem put_as {s : Shape} {e : EltTy} {m : Memref sig .tc .vmem s e} {r : Rect s} (X Y : s.Idx → Elt F e)
    {w : r.shape.Idx → Elt F e} (hY : put X r w = Y) {hx : (m.access r).Stores Finset.univ}
    {hm : (Finset.univ : Finset r.shape.Idx) = Finset.univ ∨ ∀ a, r.stride a = 1}
    {α : Type} {Q : α → sProp (MT nD τ sig Unit (Elt F) ℕ UU ℕ)} {k : PUnit → Prog (TpuEff nD τ sig (Elt F) Λ₀ .tc) α} :
    (hold c m X : sProp 𝕄)
      ⊢ iprop((hold c m Y -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  subst hY
  exact store_whole 𝒱₀ (c : Thread nD τ) X

/-- A load of a slot, what is loaded given a name. -/
theorem load_as {s s' : Shape} {e : EltTy} {m : Memref sig .tc .vmem s e} {r : Rect s} {hr : ∀ a, r.stride a = 1}
    (q : r.shape.Squeezes s') (X : s'.Idx → Elt F e) (Y : r.shape.Idx → Elt F e) (hY : flat q X = Y) {hl : m.view.LoadsAt r}
    {α : Type} {Q : α → sProp (MT nD τ sig Unit (Elt F) ℕ UU ℕ)}
    {k : (r.shape.Idx → Elt F e) → Prog (TpuEff nD τ sig (Elt F) Λ₀ .tc) α} :
    (hold c ((m.slice r hr).squeeze s' q) X : sProp 𝕄)
      ⊢ iprop((hold c ((m.slice r hr).squeeze s' q) X
            -∗ wp frame (wpE (defs₀ (F := F)) 𝒱₀ (c : Thread nD τ) none) Set.univ (k Y) Q)
        -∗ wp frame (wpE (defs₀ (F := F)) 𝒱₀ (c : Thread nD τ) none) Set.univ (.op (.load m r hl) k) Q) := by
  subst hY
  exact load_slot 𝒱₀ (c : Thread nD τ) q X
end Parts

section Parts
variable (I : Feeds F) (K : Dev nD × Fin 17 → ℕ) (c : Dev nD)

theorem left_read (g : S1024x512.Idx → Elt F .f32) :
    rd (put g rA (left I c)) (rO1 c) = rd (res0 I c) (rO1 c) := by
  funext j
  have h : (((rO1 c).emb j) 1).val < 256 := by
    rw [Rect.emb_apply]
    show (k0_off1 c) 1 + 1 * (j 1).val < 256
    rw [k0_off1_eq]
    have : (j 1).val < 256 := (j 1).isLt
    show 0 + 1 * (j 1).val < 256
    omega
  show put g rA (left I c) ((rO1 c).emb j) = res0 I c ((rO1 c).emb j)
  unfold res0
  rw [put_off _ rB _ (fun hh => by have := (mem_rB _).mp hh; omega)]
  exact put_free _ _ _ _ ((mem_rA _).mpr h)

theorem both_read (g : S1024x512.Idx → Elt F .f32) :
    put (put g rA (left I c)) rB (right I c) = res0 I c := by
  funext i
  unfold res0
  by_cases h : 256 ≤ (i 1).val
  · exact put_free _ _ _ _ ((mem_rB _).mpr h)
  · rw [put_off _ rB _ (fun hh => h ((mem_rB _).mp hh)), put_off _ rB _ (fun hh => h ((mem_rB _).mp hh))]
    exact put_free _ _ _ _ ((mem_rA _).mpr (by omega))

theorem part1 (Φ : _ → sProp (MT nD τ sig Unit (Elt F) ℕ UU ℕ)) :
    iprop(records I K ∗ owing c (debt c)
        ∗ (dutyTok ER (barCell (peer false c)) 0 false ∗ barPay false (peer false c))
        ∗ (dutyTok ER (barCell (peer true c)) 0 true ∗ barPay true (peer true c))
        ∗ cred (tallyAt (barCell c) () 2) ∗ atPos ER (barCell c) 0 ∅ 0
        ∗ hold c xB (I.x c) ∗ hold c gB (I.g c) ∗ hold c iB (I.i c)
        ∗ (∀ (v4 v8 v9 v10 : BitVec 32), (owing c (dues c order) ∗ semVal (barCell c) 0 ∗ barPay false c ∗ barPay true c
            ∗ hold c xB (I.x c) ∗ hold c gB (I.g c) ∗ hold c iB (I.i c))
          -∗ Φ ⟨c, num c, v4, v8, v9, v10, tok I c, prob I c, pick0 I c⟩))
      ⊢ wp frame (wpE (defs₀ (F := F)) 𝒱₀ (c : Thread nD τ) none) Set.univ (run1 (F := F)) Φ := by
  simp only [num, tok, prob, pick0, rd]
  simp only [run1, k0_part1_eq_skeleton]; unfold k0_part1_skel
  simp only [semSignalWord, semWaitWord, Prog.lift, Prog.bind_op, Prog.bind_ret, Prog.pure_eq_ret, wp_deviceId]
  iintro ⟨#HR, HO, ⟨Ht1, Hp1⟩, ⟨Ht2, Hp2⟩, Hc, Hat, Hx, Hg, Hi, Hk⟩
  iapply (signal_step I K c false (dev1_eq c) _ (by decide)) $$ [HO Ht1 Hp1]
  · isplitr; · iexact HR
    isplitl [HO]; · iexact HO
    isplitl [Ht1] <;> iassumption
  iintro HO
  iapply (signal_step I K c true (dev2_eq c) _ (by decide)) $$ [HO Ht2 Hp2]
  · isplitr; · iexact HR
    isplitl [HO]; · iexact HO
    isplitl [Ht2] <;> iassumption
  iintro HO
  iapply (barrier_step I K c (by decide)) $$ [HO Hc Hat]
  · isplitr; · iexact HR
    isplitl [HO]; · iexact HO
    isplitl [Hc] <;> iassumption
  iintro ⟨HO, Hz, Hb1, Hb2⟩
  iapply (load_whole 𝒱₀ (c : Thread nD τ) (m := xB) (I.x c)) $$ Hx
  iintro Hx
  iapply (load_whole 𝒱₀ (c : Thread nD τ) (m := gB) (I.g c)) $$ Hg
  iintro Hg
  iapply (load_whole 𝒱₀ (c : Thread nD τ) (m := iB) (I.i c)) $$ Hi
  iintro Hi
  rw [wp_ret]; imodintro
  iapply Hk
  isplitl [HO]; · iexact HO
  isplitl [Hz]; · iexact Hz
  isplitl [Hb1]; · iexact Hb1
  isplitl [Hb2]; · iexact Hb2
  isplitl [Hx]; · iexact Hx
  isplitl [Hg] <;> iassumption

theorem part2 (Φ : _ → sProp (MT nD τ sig Unit (Elt F) ℕ UU ℕ)) :
    iprop(hold c iB (I.i c)
        ∗ (hold c iB (I.i c) -∗ Φ ⟨pick1 I c, gate0 I c, gate1 I c, gates I c, lane0 I c, lane1 I c⟩))
      ⊢ wp frame (wpE (defs₀ (F := F)) 𝒱₀ (c : Thread nD τ) none) Set.univ
          (run2 (F := F) (num c) (tok I c) (prob I c) (pick0 I c)) Φ := by
  unfold pick1 gate0 gate1 gates lane0 lane1 col1 rd
  simp only [run2, k0_part2_eq_skeleton]; unfold k0_part2_skel
  simp only [Prog.lift, Prog.bind_op, Prog.bind_ret, Prog.pure_eq_ret]
  iintro ⟨Hi, Hk⟩
  iapply (load_whole 𝒱₀ (c : Thread nD τ) (m := iB) (I.i c)) $$ Hi
  iintro Hi
  rw [wp_ret]; imodintro
  iapply Hk; iexact Hi

theorem part3 (v4 v8 : BitVec 32) (Φ : _ → sProp (MT nD τ sig Unit (Elt F) ℕ UU ℕ)) :
    iprop(∀ (a b d e f g h : BitVec 32), Φ ⟨lane2 I c, lane3 I c, a, b, d, e, f, g, h⟩)
      ⊢ wp frame (wpE (defs₀ (F := F)) 𝒱₀ (c : Thread nD τ) none) Set.univ
          (run3 (F := F) (num c) v4 v8 (tok I c) (pick0 I c) (pick1 I c) (gate0 I c) (gate1 I c) (gates I c)) Φ := by
  unfold lane2 lane3
  simp only [run3, k0_part3_eq_skeleton]; unfold k0_part3_skel
  simp only [Prog.lift, Prog.bind_op, Prog.bind_ret, Prog.pure_eq_ret]
  iintro Hk
  rw [wp_ret]; imodintro
  iapply Hk

theorem part4 (v4 v8 v110 v119 : BitVec 32) (Φ : _ → sProp (MT nD τ sig Unit (Elt F) ℕ UU ℕ)) :
    iprop(hold c wB (I.w c) ∗ free c oB ∗ free c (tall0 out1)
        ∗ (∀ (a b d e f : BitVec 32) (g : S1024x512.Idx → Elt F .f32),
            (hold c wB (I.w c) ∗ hold c oB (put g rA (left I c)) ∗ free c (tall0 out1))
          -∗ Φ ⟨a, b, d, e, f, wtsB I c, k0_pay15 (rd (put g rA (left I c)) (rO1 c))⟩))
      ⊢ wp frame (wpE (defs₀ (F := F)) 𝒱₀ (c : Thread nD τ) none) Set.univ
          (run4 (F := F) c v4 v8 (lane0 I c) (lane1 I c) (lane2 I c) (lane3 I c) v110 v119) Φ := by
  unfold wtsB
  simp only [run4, k0_part4_eq_skeleton]; unfold k0_part4_skel
  simp only [Prog.lift, Prog.bind_op, Prog.bind_ret, Prog.pure_eq_ret]
  rw [show (free c oB : sProp (MT nD τ sig Unit (Elt F) ℕ UU ℕ)) = iprop(∃ g, hold c oB g) from rfl]
  iintro ⟨Hw, Ho, Hs, Hk⟩
  icases Ho with ⟨%g, Ho⟩
  iapply (load_whole 𝒱₀ (c : Thread nD τ) (m := wB) (I.w c)) $$ Hw
  iintro Hw
  iapply (load_whole 𝒱₀ (c : Thread nD τ) (m := oB) g) $$ Ho
  iintro Ho
  iapply (put_as c (m := oB) g (put g rA (left I c)) (by rfl)) $$ Ho
  iintro Ho
  iapply (load_whole 𝒱₀ (c : Thread nD τ) (m := oB) (put g rA (left I c))) $$ Ho
  iintro Ho
  iapply (load_has 𝒱₀ (c : Thread nD τ) (m := out1) (r := rT0) (hr := fun _ => rfl) squeezes_S1x512x256_S512x256) $$ Hs
  iintro %_ Hs
  rw [wp_ret]; imodintro
  unfold wts rd
  iapply Hk $$ %_ %_ %_ %_ %_ %g
  isplitl [Hw]; · iexact Hw
  isplitl [Ho]; · iexact Ho
  iexact Hs

theorem part5 (v9 v121 : BitVec 32) (Φ : _ → sProp (MT nD τ sig Unit (Elt F) ℕ UU ℕ)) (g : S1024x512.Idx → Elt F .f32) :
    iprop(records I K ∗ owing c (dues c order) ∗ ready c 0 ∗ free c (tall0 out1) ∗ land 0 c
        ∗ hold c oB (put g rA (left I c)) ∗ free c (tall1 out1)
        ∗ ((owing c (dues c [4, 1, 5, 2, 6, 3, 7]) ∗ flying c 0 ∗ hold c oB (res0 I c) ∗ free c (tall1 out1))
          -∗ Φ (k0_pay18 (rd (res0 I c) (rO2 c)))))
      ⊢ wp frame (wpE (defs₀ (F := F)) 𝒱₀ (c : Thread nD τ) none) Set.univ
          (run5 (F := F) c v9 (lane0 I c) (lane1 I c) (lane2 I c) (lane3 I c) v121 (wtsB I c) (k0_pay15 (rd (res0 I c) (rO1 c)))) Φ := by
  simp only [run5, k0_part5_eq_skeleton]; unfold k0_part5_skel
  simp only [Prog.lift, Prog.bind_op, Prog.bind_ret, Prog.pure_eq_ret]
  iintro ⟨#HR, HO, Hr, Hs, Hl, Ho, Hs', Hk⟩
  iapply (store_as c (m := out1) (r := rT0) (hr := fun _ => rfl) squeezes_S1x512x256_S512x256 (sent0 I c) (by rfl)) $$ Hs
  iintro Hs
  iapply (send I K c 0 [4, 1, 5, 2, 6, 3, 7] (dev3_eq c) (src := tall0 out1) (dst := tall0 in1) (by rfl) (by rfl) (sent0 I c) (by rfl) (by rfl) (by rfl) (by rfl)) $$ [HO Hr Hs Hl]
  · isplitr; · iexact HR
    isplitl [HO]; · iexact HO
    isplitl [Hr]; · iexact Hr
    isplitl [Hs] <;> iassumption
  iintro ⟨Hf, HO⟩
  iapply (load_whole 𝒱₀ (c : Thread nD τ) (m := oB) (put g rA (left I c))) $$ Ho
  iintro Ho
  iapply (put_as c (m := oB) (put g rA (left I c)) (res0 I c) (by exact both_read I c g)) $$ Ho
  iintro Ho
  iapply (load_whole 𝒱₀ (c : Thread nD τ) (m := oB) (res0 I c)) $$ Ho
  iintro Ho
  iapply (load_has 𝒱₀ (c : Thread nD τ) (m := out1) (r := rT1) (hr := fun _ => rfl) squeezes_S1x512x256_S512x256) $$ Hs'
  iintro %_ Hs'
  rw [wp_ret]; imodintro
  iapply Hk
  isplitl [HO]; · iexact HO
  isplitl [Hf]; · iexact Hf
  isplitl [Ho]; · iexact Ho
  iexact Hs'

theorem part6 (v9 v10 v108 : BitVec 32) (Φ : _ → sProp (MT nD τ sig Unit (Elt F) ℕ UU ℕ)) :
    iprop(records I K ∗ owing c (dues c [4, 1, 5, 2, 6, 3, 7]) ∗ ready c 4 ∗ free c (tall1 out1) ∗ land 4 c ∗ flying c 0 ∗ hearing c 0
        ∗ hold c oB (res0 I c)
        ∗ ((owing c (dues c [1, 5, 2, 6, 3, 7]) ∗ flying c 4 ∗ semVal (sendCell c 0) 0 ∗ hold c (tall0 out1) (sent0 I c)
            ∗ semVal (recvCell c 0) 0 ∗ hold c (tall0 in1) (sent0 I (peer (via 0) c)) ∗ hold c oB (res0 I c))
          -∗ Φ (rd (res0 I c) (rO3 c))))
      ⊢ wp frame (wpE (defs₀ (F := F)) 𝒱₀ (c : Thread nD τ) none) Set.univ
          (run6 (F := F) c v9 v10 v108 (k0_pay18 (rd (res0 I c) (rO2 c)))) Φ := by
  simp only [run6, k0_part6_eq_skeleton]; unfold k0_part6_skel
  simp only [Prog.lift, Prog.bind_op, Prog.bind_ret, Prog.pure_eq_ret]
  iintro ⟨#HR, HO, Hr, Hs, Hl, Hf0, Hh0, Ho, Hk⟩
  iapply (store_as c (m := out1) (r := rT1) (hr := fun _ => rfl) squeezes_S1x512x256_S512x256 (sent4 I c) (by rfl)) $$ Hs
  iintro Hs
  iapply (send I K c 4 [1, 5, 2, 6, 3, 7] (dev4_eq c) (src := tall1 out1) (dst := tall1 in1) (by rfl) (by rfl) (sent4 I c) (by rfl) (by rfl) (by rfl) (by rfl)) $$ [HO Hr Hs Hl]
  · isplitr; · iexact HR
    isplitl [HO]; · iexact HO
    isplitl [Hr]; · iexact Hr
    isplitl [Hs] <;> iassumption
  iintro ⟨Hf, HO⟩
  iapply (wait_sent I K c 0 [1, 5, 2, 6, 3, 7] (by rfl) (hold c (tall0 out1) (sent0 I c)) (by rfl) (by rfl)) $$ [HO Hf0]
  · isplitr; · iexact HR
    isplitl [HO] <;> iassumption
  iintro ⟨HO, Hz, Hs0⟩
  iapply (wait_heard I K c 0 [1, 5, 2, 6, 3, 7] (by decide) (by rfl) (hold c (tall0 in1) (sent0 I (peer (via 0) c))) (by rfl) (by rfl)) $$ [HO Hh0]
  · isplitr; · iexact HR
    isplitl [HO] <;> iassumption
  iintro ⟨HO, Hz', Hs1⟩
  iapply (load_whole 𝒱₀ (c : Thread nD τ) (m := oB) (res0 I c)) $$ Ho
  iintro Ho
  rw [wp_ret]; imodintro
  iapply Hk
  isplitl [HO]; · iexact HO
  isplitl [Hf]; · iexact Hf
  isplitl [Hz]; · iexact Hz
  isplitl [Hs0]; · iexact Hs0
  isplitl [Hz']; · iexact Hz'
  isplitl [Hs1]; · iexact Hs1
  iexact Ho

end Parts

end Cert.KernelIdeal.Wave
-- ==== Proof.KernelIdeal.Second.lean ====
/-
The kernel body, continued: the exchanges that add up the halves and then the quarters of the result.
-/
module

public import proofs.«01_k».proof.Proof.KernelIdeal.First

@[expose] public section

noncomputable section

namespace Cert.KernelIdeal.Wave

open Cert.KernelIdeal Cert.KernelIdeal.Gen Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (I : Feeds F) (K : Dev nD × Fin 17 → ℕ) (c : Dev nD)

theorem part7 (v10 v108 v115 : BitVec 32) (Φ : _ → sProp (MT nD τ sig Unit (Elt F) ℕ UU ℕ)) :
    iprop(records I K ∗ owing c (dues c [1, 5, 2, 6, 3, 7]) ∗ ready c 1 ∗ free c (small0 out2) ∗ land 1 c
        ∗ hold c (tall0 in1) (sent0 I (peer (via 0) c)) ∗ hold c oB (res0 I c)
        ∗ ((owing c (dues c [5, 2, 6, 3, 7]) ∗ flying c 1 ∗ hold c (tall0 in1) (sent0 I (peer (via 0) c)) ∗ hold c oB (res1 I c))
          -∗ Φ ⟨⟩))
      ⊢ wp frame (wpE (defs₀ (F := F)) 𝒱₀ (c : Thread nD τ) none) Set.univ
          (run7 (F := F) c v10 v108 v115 (rd (res0 I c) (rO3 c))) Φ := by
  simp only [run7, k0_part7_eq_skeleton]; unfold k0_part7_skel
  simp only [Prog.lift, Prog.bind_op, Prog.bind_ret, Prog.pure_eq_ret]
  iintro ⟨#HR, HO, Hr, Hs, Hl, Hi, Ho, Hk⟩
  iapply (load_as c (m := in1) (r := rT0) (hr := fun _ => rfl) squeezes_S1x512x256_S512x256 _ (gotT (sent0 I (peer (via 0) c))) (by rfl)) $$ Hi
  iintro Hi
  iapply (load_whole 𝒱₀ (c : Thread nD τ) (m := oB) (res0 I c)) $$ Ho
  iintro Ho
  iapply (put_as c (m := oB) (res0 I c) (res1 I c) (by rfl)) $$ Ho
  iintro Ho
  iapply (load_whole 𝒱₀ (c : Thread nD τ) (m := oB) (res1 I c)) $$ Ho
  iintro Ho
  iapply (load_has 𝒱₀ (c : Thread nD τ) (m := out2) (r := rS0) (hr := fun _ => rfl) squeezes_S1x256x256_S256x256) $$ Hs
  iintro %_ Hs
  iapply (store_as c (m := out2) (r := rS0) (hr := fun _ => rfl) squeezes_S1x256x256_S256x256 (sent1 I c) (by rfl)) $$ Hs
  iintro Hs
  iapply (send I K c 1 [5, 2, 6, 3, 7] (dev5_eq c) (src := small0 out2) (dst := small0 in2) (by rfl) (by rfl) (sent1 I c) (by rfl) (by rfl) (by rfl) (by rfl)) $$ [HO Hr Hs Hl]
  · isplitr; · iexact HR
    isplitl [HO]; · iexact HO
    isplitl [Hr]; · iexact Hr
    isplitl [Hs] <;> iassumption
  iintro ⟨Hf, HO⟩
  rw [wp_ret]; imodintro
  iapply Hk
  isplitl [HO]; · iexact HO
  isplitl [Hf]; · iexact Hf
  isplitl [Hi]; · iexact Hi
  iexact Ho

theorem part8 (v9 v10 v119 v126 : BitVec 32) (Φ : _ → sProp (MT nD τ sig Unit (Elt F) ℕ UU ℕ)) :
    iprop(records I K ∗ owing c (dues c [5, 2, 6, 3, 7]) ∗ flying c 4 ∗ hearing c 4 ∗ hold c oB (res1 I c) ∗ free c (small1 out2)
        ∗ ((owing c (dues c [5, 2, 6, 3, 7]) ∗ semVal (sendCell c 4) 0 ∗ hold c (tall1 out1) (sent4 I c)
            ∗ semVal (recvCell c 4) 0 ∗ hold c (tall1 in1) (sent4 I (peer (via 4) c)) ∗ hold c oB (res2 I c)
            ∗ hold c (small1 out2) (sent5 I c))
          -∗ Φ ⟨⟩))
      ⊢ wp frame (wpE (defs₀ (F := F)) 𝒱₀ (c : Thread nD τ) none) Set.univ
          (run8 (F := F) c v9 v10 v119 v126) Φ := by
  simp only [run8, k0_part8_eq_skeleton]; unfold k0_part8_skel
  simp only [Prog.lift, Prog.bind_op, Prog.bind_ret, Prog.pure_eq_ret]
  iintro ⟨#HR, HO, Hf, Hh, Ho, Hs, Hk⟩
  iapply (wait_sent I K c 4 [5, 2, 6, 3, 7] (by rfl) (hold c (tall1 out1) (sent4 I c)) (by rfl) (by rfl)) $$ [HO Hf]
  · isplitr; · iexact HR
    isplitl [HO] <;> iassumption
  iintro ⟨HO, Hz, Hs0⟩
  iapply (wait_heard I K c 4 [5, 2, 6, 3, 7] (by decide) (by rfl) (hold c (tall1 in1) (sent4 I (peer (via 4) c))) (by rfl) (by rfl)) $$ [HO Hh]
  · isplitr; · iexact HR
    isplitl [HO] <;> iassumption
  iintro ⟨HO, Hz', Hi⟩
  iapply (load_whole 𝒱₀ (c : Thread nD τ) (m := oB) (res1 I c)) $$ Ho
  iintro Ho
  iapply (load_as c (m := in1) (r := rT1) (hr := fun _ => rfl) squeezes_S1x512x256_S512x256 _ (gotT (sent4 I (peer (via 4) c))) (by rfl)) $$ Hi
  iintro Hi
  iapply (load_whole 𝒱₀ (c : Thread nD τ) (m := oB) (res1 I c)) $$ Ho
  iintro Ho
  iapply (put_as c (m := oB) (res1 I c) (res2 I c) (by rfl)) $$ Ho
  iintro Ho
  iapply (load_whole 𝒱₀ (c : Thread nD τ) (m := oB) (res2 I c)) $$ Ho
  iintro Ho
  iapply (load_has 𝒱₀ (c : Thread nD τ) (m := out2) (r := rS1) (hr := fun _ => rfl) squeezes_S1x256x256_S256x256) $$ Hs
  iintro %_ Hs
  iapply (store_as c (m := out2) (r := rS1) (hr := fun _ => rfl) squeezes_S1x256x256_S256x256 (sent5 I c) (by rfl)) $$ Hs
  iintro Hs
  rw [wp_ret]; imodintro
  iapply Hk
  isplitl [HO]; · iexact HO
  isplitl [Hz]; · iexact Hz
  isplitl [Hs0]; · iexact Hs0
  isplitl [Hz']; · iexact Hz'
  isplitl [Hi]; · iexact Hi
  isplitl [Ho]; · iexact Ho
  iexact Hs

theorem part9 (v10 v112 : BitVec 32) (Φ : _ → sProp (MT nD τ sig Unit (Elt F) ℕ UU ℕ)) :
    iprop(records I K ∗ owing c (dues c [5, 2, 6, 3, 7]) ∗ ready c 5 ∗ hold c (small1 out2) (sent5 I c) ∗ land 5 c
        ∗ flying c 1 ∗ hearing c 1 ∗ hold c oB (res2 I c)
        ∗ ((owing c (dues c [2, 6, 3, 7]) ∗ flying c 5 ∗ semVal (sendCell c 1) 0 ∗ hold c (small0 out2) (sent1 I c)
            ∗ semVal (recvCell c 1) 0 ∗ hold c (small0 in2) (sent1 I (peer (via 1) c)) ∗ hold c oB (res3 I c))
          -∗ Φ (k0_pay24 (rd (res2 I c) (rO7 c)) (gotS (sent1 I (peer (via 1) c))))))
      ⊢ wp frame (wpE (defs₀ (F := F)) 𝒱₀ (c : Thread nD τ) none) Set.univ
          (run9 (F := F) c v10 v112) Φ := by
  simp only [run9, k0_part9_eq_skeleton]; unfold k0_part9_skel
  simp only [Prog.lift, Prog.bind_op, Prog.bind_ret, Prog.pure_eq_ret]
  iintro ⟨#HR, HO, Hr, Hs, Hl, Hf, Hh, Ho, Hk⟩
  iapply (send I K c 5 [2, 6, 3, 7] (dev6_eq c) (src := small1 out2) (dst := small1 in2) (by rfl) (by rfl) (sent5 I c) (by rfl) (by rfl) (by rfl) (by rfl)) $$ [HO Hr Hs Hl]
  · isplitr; · iexact HR
    isplitl [HO]; · iexact HO
    isplitl [Hr]; · iexact Hr
    isplitl [Hs] <;> iassumption
  iintro ⟨Hf', HO⟩
  iapply (wait_sent I K c 1 [2, 6, 3, 7] (by rfl) (hold c (small0 out2) (sent1 I c)) (by rfl) (by rfl)) $$ [HO Hf]
  · isplitr; · iexact HR
    isplitl [HO] <;> iassumption
  iintro ⟨HO, Hz, Hs0⟩
  iapply (wait_heard I K c 1 [2, 6, 3, 7] (by decide) (by rfl) (hold c (small0 in2) (sent1 I (peer (via 1) c))) (by rfl) (by rfl)) $$ [HO Hh]
  · isplitr; · iexact HR
    isplitl [HO] <;> iassumption
  iintro ⟨HO, Hz', Hi⟩
  iapply (load_whole 𝒱₀ (c : Thread nD τ) (m := oB) (res2 I c)) $$ Ho
  iintro Ho
  iapply (load_as c (m := in2) (r := rS0) (hr := fun _ => rfl) squeezes_S1x256x256_S256x256 _ (gotS (sent1 I (peer (via 1) c))) (by rfl)) $$ Hi
  iintro Hi
  iapply (load_whole 𝒱₀ (c : Thread nD τ) (m := oB) (res2 I c)) $$ Ho
  iintro Ho
  iapply (put_as c (m := oB) (res2 I c) (res3 I c) (by rfl)) $$ Ho
  iintro Ho
  rw [wp_ret]; imodintro
  iapply Hk
  isplitl [HO]; · iexact HO
  isplitl [Hf']; · iexact Hf'
  isplitl [Hz]; · iexact Hz
  isplitl [Hs0]; · iexact Hs0
  isplitl [Hz']; · iexact Hz'
  isplitl [Hi]; · iexact Hi
  iexact Ho

/-- The rows the device keeps of its block, and those it has from its partner, in the order they are gathered. -/
abbrev own2 : Memref sig .tc .vmem S256x256 .bf16 := rows near (k0_off9 c) (k0_off9_inb c)
abbrev own6 : Memref sig .tc .vmem S256x256 .bf16 := rows near (k0_off12 c) (k0_off12_inb c)

/-- A slot held is a slot held at equal offsets. -/
theorem hold_rows {o o' : Fin S2x512x256.rank → ℕ} (e : o = o') (h : ∀ a, o a + S1x256x256.size a ≤ S2x512x256.size a)
    (h' : ∀ a, o' a + S1x256x256.size a ≤ S2x512x256.size a) (X : S256x256.Idx → Elt F .bf16) :
    (hold c (rows near o h) X : sProp (MT nD τ sig Unit (Elt F) ℕ UU ℕ)) ⊢ hold c (rows near o' h') X := by
  subst e; exact .rfl

theorem part10 (v9 v10 v116 : BitVec 32) (Φ : _ → sProp (MT nD τ sig Unit (Elt F) ℕ UU ℕ)) :
    iprop(records I K ∗ owing c (dues c [2, 6, 3, 7]) ∗ ready c 2 ∗ free c (own2 c) ∗ land 2 c
        ∗ flying c 5 ∗ hearing c 5
        ∗ ((owing c (dues c [6, 3, 7]) ∗ flying c 2 ∗ semVal (sendCell c 5) 0 ∗ hold c (small1 out2) (sent5 I c)
            ∗ semVal (recvCell c 5) 0 ∗ hold c (small1 in2) (sent5 I (peer (via 5) c)))
          -∗ Φ ⟨⟩))
      ⊢ wp frame (wpE (defs₀ (F := F)) 𝒱₀ (c : Thread nD τ) none) Set.univ
          (run10 (F := F) c v9 v10 v116 (k0_pay24 (rd (res2 I c) (rO7 c)) (gotS (sent1 I (peer (via 1) c))))) Φ := by
  simp only [run10, k0_part10_eq_skeleton]; unfold k0_part10_skel
  simp only [Prog.lift, Prog.bind_op, Prog.bind_ret, Prog.pure_eq_ret]
  rw [show (free c (own2 c) : sProp (MT nD τ sig Unit (Elt F) ℕ UU ℕ)) = free c (rows near (k0_off8 c) (k0_off8_inb c)) from
    congrArg (free c) (rows_congr near (off8_eq c).symm _ _)]
  iintro ⟨#HR, HO, Hr, Hs, Hl, Hf, Hh, Hk⟩
  iapply (load_has 𝒱₀ (c : Thread nD τ) (m := near) (r := rH (k0_off8 c) (k0_off8_inb c)) (hr := fun _ => rfl) squeezes_S1x256x256_S256x256) $$ Hs
  iintro %_ Hs
  iapply (store_as c (m := near) (r := rH (k0_off8 c) (k0_off8_inb c)) (hr := fun _ => rfl) squeezes_S1x256x256_S256x256 (sent2 I c) (by rfl)) $$ Hs
  iintro Hs
  ihave Hs := (hold_rows c (off8_eq c) (k0_off8_inb c) (k0_off9_inb c) (sent2 I c)) $$ Hs
  iapply (send I K c 2 [6, 3, 7] (dev7_eq c) (src := own2 c) (dst := own2 c) (by rfl) (by rfl) (sent2 I c) (by rfl) (by rfl) (by rfl) (by rfl)) $$ [HO Hr Hs Hl]
  · isplitr; · iexact HR
    isplitl [HO]; · iexact HO
    isplitl [Hr]; · iexact Hr
    isplitl [Hs] <;> iassumption
  iintro ⟨Hf', HO⟩
  iapply (wait_sent I K c 5 [6, 3, 7] (by rfl) (hold c (small1 out2) (sent5 I c)) (by rfl) (by rfl)) $$ [HO Hf]
  · isplitr; · iexact HR
    isplitl [HO] <;> iassumption
  iintro ⟨HO, Hz, Hs0⟩
  iapply (wait_heard I K c 5 [6, 3, 7] (by decide) (by rfl) (hold c (small1 in2) (sent5 I (peer (via 5) c))) (by rfl) (by rfl)) $$ [HO Hh]
  · isplitr; · iexact HR
    isplitl [HO] <;> iassumption
  iintro ⟨HO, Hz', Hi⟩
  rw [wp_ret]; imodintro
  iapply Hk
  isplitl [HO]; · iexact HO
  isplitl [Hf']; · iexact Hf'
  isplitl [Hz]; · iexact Hz
  isplitl [Hs0]; · iexact Hs0
  isplitl [Hz']; · iexact Hz'
  iexact Hi

theorem part11 (v9 v123 v127 : BitVec 32) (Φ : _ → sProp (MT nD τ sig Unit (Elt F) ℕ UU ℕ)) :
    iprop(records I K ∗ owing c (dues c [6, 3, 7]) ∗ hold c oB (res3 I c) ∗ hold c (small1 in2) (sent5 I (peer (via 5) c))
        ∗ free c (own6 c) ∗ ready c 6 ∗ land 6 c ∗ flying c 2
        ∗ ((owing c (dues c [3, 7]) ∗ flying c 6 ∗ hold c oB (res4 I c) ∗ hold c (small1 in2) (sent5 I (peer (via 5) c))
            ∗ semVal (sendCell c 2) 0 ∗ hold c (own2 c) (sent2 I c))
          -∗ Φ ⟨⟩))
      ⊢ wp frame (wpE (defs₀ (F := F)) 𝒱₀ (c : Thread nD τ) none) Set.univ
          (run11 (F := F) c v9 v123 v127) Φ := by
  simp only [run11, k0_part11_eq_skeleton]; unfold k0_part11_skel
  simp only [Prog.lift, Prog.bind_op, Prog.bind_ret, Prog.pure_eq_ret]
  rw [show (free c (own6 c) : sProp (MT nD τ sig Unit (Elt F) ℕ UU ℕ)) = free c (rows near (k0_off11 c) (k0_off11_inb c)) from
    congrArg (free c) (rows_congr near (off11_eq c).symm _ _)]
  iintro ⟨#HR, HO, Ho, Hi, Hs, Hr, Hl, Hf, Hk⟩
  iapply (load_whole 𝒱₀ (c : Thread nD τ) (m := oB) (res3 I c)) $$ Ho
  iintro Ho
  iapply (load_as c (m := in2) (r := rS1) (hr := fun _ => rfl) squeezes_S1x256x256_S256x256 _ (gotS (sent5 I (peer (via 5) c))) (by rfl)) $$ Hi
  iintro Hi
  iapply (load_whole 𝒱₀ (c : Thread nD τ) (m := oB) (res3 I c)) $$ Ho
  iintro Ho
  iapply (put_as c (m := oB) (res3 I c) (res4 I c) (by rfl)) $$ Ho
  iintro Ho
  iapply (load_has 𝒱₀ (c : Thread nD τ) (m := near) (r := rH (k0_off11 c) (k0_off11_inb c)) (hr := fun _ => rfl) squeezes_S1x256x256_S256x256) $$ Hs
  iintro %_ Hs
  iapply (store_as c (m := near) (r := rH (k0_off11 c) (k0_off11_inb c)) (hr := fun _ => rfl) squeezes_S1x256x256_S256x256 (sent6 I c) (by rfl)) $$ Hs
  iintro Hs
  ihave Hs := (hold_rows c (off11_eq c) (k0_off11_inb c) (k0_off12_inb c) (sent6 I c)) $$ Hs
  iapply (send I K c 6 [3, 7] (dev8_eq c) (src := own6 c) (dst := own6 c) (by rfl) (by rfl) (sent6 I c) (by rfl) (by rfl) (by rfl) (by rfl)) $$ [HO Hr Hs Hl]
  · isplitr; · iexact HR
    isplitl [HO]; · iexact HO
    isplitl [Hr]; · iexact Hr
    isplitl [Hs] <;> iassumption
  iintro ⟨Hf', HO⟩
  iapply (wait_sent I K c 2 [3, 7] (by rfl) (hold c (own2 c) (sent2 I c)) (by rfl) (by rfl)) $$ [HO Hf]
  · isplitr; · iexact HR
    isplitl [HO] <;> iassumption
  iintro ⟨HO, Hz, Hs0⟩
  rw [wp_ret]; imodintro
  iapply Hk
  isplitl [HO]; · iexact HO
  isplitl [Hf']; · iexact Hf'
  isplitl [Ho]; · iexact Ho
  isplitl [Hi]; · iexact Hi
  isplitl [Hz]; · iexact Hz
  iexact Hs0

end Parts

end Cert.KernelIdeal.Wave
-- ==== Proof.KernelIdeal.Third.lean ====
/-
The kernel body, its end: the exchanges that gather the finished quarters back into halves and the halves into the whole.
-/
module

public import proofs.«01_k».proof.Proof.KernelIdeal.Second

@[expose] public section

noncomputable section

namespace Cert.KernelIdeal.Wave

open Cert.KernelIdeal Cert.KernelIdeal.Gen Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Gathering a block of rows -/

/-- The two halves of block `n`, in either order. -/
def Pair (n : ℕ) (o o' : Fin S2x512x256.rank → ℕ) : Prop :=
  (o = ![n, 0, 0] ∧ o' = ![n, 256, 0]) ∨ (o = ![n, 256, 0] ∧ o' = ![n, 0, 0])

theorem pair9 (c : Dev nD) : Pair 0 (k0_off9 c) (k0_off9 (peer (via 2) c)) := by
  unfold Pair; rw [k0_off9_eq, k0_off9_eq]; revert c; decide
theorem pair12 (c : Dev nD) : Pair 1 (k0_off12 c) (k0_off12 (peer (via 6) c)) := by
  unfold Pair; rw [k0_off12_eq, k0_off12_eq]; revert c; decide

theorem mem_half (n k : ℕ) (h : ∀ a, (![n, k, 0] : Fin S2x512x256.rank → ℕ) a + S1x256x256.size a ≤ S2x512x256.size a) (i : S2x512x256.Idx) :
    i ∈ (rH ![n, k, 0] h).set ↔ (i 0).val = n ∧ k ≤ (i 1).val ∧ (i 1).val < k + 256 := by
  rw [Rect.mem_set_unit]
  constructor
  · intro hh
    have h0 := hh 0; have h1 := hh 1
    have a0 : n ≤ (i 0).val ∧ (i 0).val < n + 1 := h0
    have a1 : k ≤ (i 1).val ∧ (i 1).val < k + 256 := h1
    omega
  · rintro ⟨h0, h1, h2⟩ a
    fin_cases a
    · show n ≤ (i 0).val ∧ (i 0).val < n + 1; omega
    · exact ⟨h1, h2⟩
    · exact ⟨Nat.zero_le _, (i 2).isLt⟩

theorem mem_block (n : ℕ) (h : ∀ a, (![n, 0, 0] : Fin S2x512x256.rank → ℕ) a + S1x512x256.size a ≤ S2x512x256.size a) (i : S2x512x256.Idx) :
    i ∈ (Rect.unit (s := S2x512x256) ![n, 0, 0] S1x512x256.size h).set ↔ (i 0).val = n := by
  rw [Rect.mem_set_unit]
  constructor
  · intro hh
    have a0 : n ≤ (i 0).val ∧ (i 0).val < n + 1 := hh 0
    omega
  · intro h0 a
    fin_cases a
    · show n ≤ (i 0).val ∧ (i 0).val < n + 1; omega
    · exact ⟨Nat.zero_le _, (i 1).isLt⟩
    · exact ⟨Nat.zero_le _, (i 2).isLt⟩

theorem pair_disjoint {n : ℕ} {o o' : Fin S2x512x256.rank → ℕ} (hp : Pair n o o') (h h') : Disjoint (rH o h).set (rH o' h').set := by
  rw [Finset.disjoint_left]
  intro i hi hi'
  rcases hp with ⟨rfl, rfl⟩ | ⟨rfl, rfl⟩
  all_goals
    have a := (mem_half _ _ _ _).mp hi
    have b := (mem_half _ _ _ _).mp hi'
    omega

theorem pair_union {n : ℕ} {o o' : Fin S2x512x256.rank → ℕ} (hp : Pair n o o') (h h')
    (hr : ∀ a, (![n, 0, 0] : Fin S2x512x256.rank → ℕ) a + S1x512x256.size a ≤ S2x512x256.size a) :
    (rH o h).set ∪ (rH o' h').set = (Rect.unit (s := S2x512x256) ![n, 0, 0] S1x512x256.size hr).set := by
  ext i
  rw [Finset.mem_union, mem_block]
  have hi : (i 1).val < 512 := (i 1).isLt
  rcases hp with ⟨rfl, rfl⟩ | ⟨rfl, rfl⟩
  all_goals
    rw [mem_half, mem_half]
    omega

/-- A slot's contents told by the rectangle's indices and back. -/
theorem thin_flat {s s' : Shape} {e : EltTy} {r : Rect s} (q : r.shape.Squeezes s') (X : s'.Idx → Elt F e) :
    thin (Val := Elt F) (e := e) q (flat (Val := Elt F) (e := e) q X) = X := by
  funext j
  show X ((Shape.reshapeEquiv q.numel_eq).symm (Shape.reshapeEquiv q.numel_eq j)) = X j
  rw [Equiv.symm_apply_apply]

/-- Two halves of a block, one kept and one received, are the block gathered. -/
theorem gather (c : Dev nD) {n : ℕ} {o o' : Fin S2x512x256.rank → ℕ} (hp : Pair n o o') (h h')
    (hr : ∀ a, (![n, 0, 0] : Fin S2x512x256.rank → ℕ) a + S1x512x256.size a ≤ S2x512x256.size a)
    (X Y : S256x256.Idx → Elt F .bf16) (g : S2x512x256.Idx → Elt F .bf16) :
    iprop(hold c (rows near o h) X ∗ hold c (rows near o' h') Y)
      ⊢ (hold c ((near.slice (Rect.unit (s := S2x512x256) ![n, 0, 0] S1x512x256.size hr) (fun _ => rfl)).squeeze S512x256
          squeezes_S1x512x256_S512x256)
        (thin (r := Rect.unit (s := S2x512x256) ![n, 0, 0] S1x512x256.size hr) squeezes_S1x512x256_S512x256
          (rd (put (put g (rH o h) (gotS X)) (rH o' h') (gotS Y)) (Rect.unit (s := S2x512x256) ![n, 0, 0] S1x512x256.size hr)))
        : sProp (MT nD τ sig Unit (Elt F) ℕ UU ℕ)) := by
  have hd := pair_disjoint hp h h'
  have e := owns_merge (Ix := Unit) (Val := Elt F) (Name := ℕ) (U := UU) (Lvl := ℕ) (c : Thread nD τ) near (rH o h) (rH o' h') (Rect.unit (s := S2x512x256) ![n, 0, 0] S1x512x256.size hr)
    (fun _ => rfl) (fun _ => rfl) (fun _ => rfl) squeezes_S1x256x256_S256x256 squeezes_S1x256x256_S256x256
    squeezes_S1x512x256_S512x256 hd (pair_union hp h h' hr) (put (put g (rH o h) (gotS X)) (rH o' h') (gotS Y))
  have e1 : (fun j => put (put g (rH o h) (gotS X)) (rH o' h') (gotS Y) ((rH o h).emb j)) = gotS X := by
    funext j
    have hj : (rH o h).emb j ∈ (rH o h).set := by
      rw [← Rect.map_emb_univ]; exact Finset.mem_map_of_mem _ (Finset.mem_univ j)
    rw [put_off _ _ _ (Finset.disjoint_left.mp hd hj), put_emb]
  have e2 : (fun j => put (put g (rH o h) (gotS X)) (rH o' h') (gotS Y) ((rH o' h').emb j)) = gotS Y := by
    funext j; rw [put_emb]
  rw [e1, e2] at e
  have t1 : ∀ (o : Fin S2x512x256.rank → ℕ) (h) (X : S256x256.Idx → Elt F .bf16),
      thin (Val := Elt F) (e := EltTy.bf16) (r := rH o h) squeezes_S1x256x256_S256x256 (gotS X) = X := fun o h X =>
    thin_flat (r := rH o h) (e := EltTy.bf16) squeezes_S1x256x256_S256x256 X
  rw [t1, t1] at e
  exact e

section Parts
variable (I : Feeds F) (K : Dev nD × Fin 17 → ℕ) (c : Dev nD)

theorem gather3 : iprop(hold c (own2 c) (sent2 I c) ∗ hold c (own2 (peer (via 2) c)) (sent2 I (peer (via 2) c)))
    ⊢ (hold c (tall0 near) (sent3 I c) : sProp (MT nD τ sig Unit (Elt F) ℕ UU ℕ)) := by
  unfold sent3 half0
  exact gather c (pair9 c) (k0_off9_inb c) (k0_off9_inb _) inb_S2x512x256_S1x512x256_0_0_0 (sent2 I c) (sent2 I (peer (via 2) c)) _
theorem gather7 : iprop(hold c (own6 c) (sent6 I c) ∗ hold c (own6 (peer (via 6) c)) (sent6 I (peer (via 6) c)))
    ⊢ (hold c (tall1 near) (sent7 I c) : sProp (MT nD τ sig Unit (Elt F) ℕ UU ℕ)) := by
  unfold sent7 half1
  exact gather c (pair12 c) (k0_off12_inb c) (k0_off12_inb _) inb_S2x512x256_S1x512x256_1_0_0 (sent6 I c) (sent6 I (peer (via 6) c)) _

theorem part12 (v9 v10 v108 v118 : BitVec 32) (Φ : _ → sProp (MT nD τ sig Unit (Elt F) ℕ UU ℕ)) :
    iprop(records I K ∗ owing c (dues c [3, 7]) ∗ hearing c 2 ∗ hold c oB (res4 I c) ∗ hold c (own2 c) (sent2 I c)
        ∗ ready c 3 ∗ land 3 c ∗ flying c 6
        ∗ ((owing c (dues c [7]) ∗ semVal (recvCell c 2) 0 ∗ hold c oB (res5 I c) ∗ flying c 3
            ∗ semVal (sendCell c 6) 0 ∗ hold c (own6 c) (sent6 I c))
          -∗ Φ ⟨⟩))
      ⊢ wp frame (wpE (defs₀ (F := F)) 𝒱₀ (c : Thread nD τ) none) Set.univ
          (run12 (F := F) c v9 v10 v108 v118) Φ := by
  simp only [run12, k0_part12_eq_skeleton]; unfold k0_part12_skel
  simp only [Prog.lift, Prog.bind_op, Prog.bind_ret, Prog.pure_eq_ret]
  iintro ⟨#HR, HO, Hh, Ho, Hs, Hr, Hl, Hf, Hk⟩
  iapply (wait_heard I K c 2 [3, 7] (by decide) (by rfl) (hold c (own2 (peer (via 2) c)) (sent2 I (peer (via 2) c))) (by rfl) (by rfl)) $$ [HO Hh]
  · isplitr; · iexact HR
    isplitl [HO] <;> iassumption
  iintro ⟨HO, Hz, Hi⟩
  ihave Hi := (hold_rows c (off13_eq c).symm (k0_off9_inb (peer (via 2) c)) (k0_off13_inb c) (sent2 I (peer (via 2) c))) $$ Hi
  iapply (load_as c (m := near) (r := rH (k0_off13 c) (k0_off13_inb c)) (hr := fun _ => rfl) squeezes_S1x256x256_S256x256 _ (gotS (sent2 I (peer (via 2) c))) (by rfl)) $$ Hi
  iintro Hi
  ihave Hi := (hold_rows c (off13_eq c) (k0_off13_inb c) (k0_off9_inb (peer (via 2) c)) (sent2 I (peer (via 2) c))) $$ Hi
  iapply (load_whole 𝒱₀ (c : Thread nD τ) (m := oB) (res4 I c)) $$ Ho
  iintro Ho
  iapply (put_as c (m := oB) (res4 I c) (res5 I c) (by rfl)) $$ Ho
  iintro Ho
  ihave Hg := (gather3 I c) $$ [Hs Hi]
  · isplitl [Hs]; · iexact Hs
    iexact Hi
  iapply (send I K c 3 [7] (dev9_eq c) (src := tall0 near) (dst := tall0 far) (by rfl) (by rfl) (sent3 I c) (by rfl) (by rfl) (by rfl) (by rfl)) $$ [HO Hr Hg Hl]
  · isplitr; · iexact HR
    isplitl [HO]; · iexact HO
    isplitl [Hr]; · iexact Hr
    isplitl [Hg] <;> iassumption
  iintro ⟨Hf', HO⟩
  iapply (wait_sent I K c 6 [7] (by rfl) (hold c (own6 c) (sent6 I c)) (by rfl) (by rfl)) $$ [HO Hf]
  · isplitr; · iexact HR
    isplitl [HO] <;> iassumption
  iintro ⟨HO, Hz', Hs0⟩
  rw [wp_ret]; imodintro
  iapply Hk
  isplitl [HO]; · iexact HO
  isplitl [Hz]; · iexact Hz
  isplitl [Ho]; · iexact Ho
  isplitl [Hf']; · iexact Hf'
  isplitl [Hz']; · iexact Hz'
  iexact Hs0

theorem part13 (v9 v10 v119 v129 : BitVec 32) (Φ : _ → sProp (MT nD τ sig Unit (Elt F) ℕ UU ℕ)) :
    iprop(records I K ∗ owing c (dues c [7]) ∗ hearing c 6 ∗ hold c oB (res5 I c) ∗ hold c (own6 c) (sent6 I c)
        ∗ ready c 7 ∗ land 7 c
        ∗ ((owing c (dues c []) ∗ semVal (recvCell c 6) 0 ∗ hold c oB (res6 I c) ∗ flying c 7)
          -∗ Φ ⟨⟩))
      ⊢ wp frame (wpE (defs₀ (F := F)) 𝒱₀ (c : Thread nD τ) none) Set.univ
          (run13 (F := F) c v9 v10 v119 v129) Φ := by
  simp only [run13, k0_part13_eq_skeleton]; unfold k0_part13_skel
  simp only [Prog.lift, Prog.bind_op, Prog.bind_ret, Prog.pure_eq_ret]
  iintro ⟨#HR, HO, Hh, Ho, Hs, Hr, Hl, Hk⟩
  iapply (wait_heard I K c 6 [7] (by decide) (by rfl) (hold c (own6 (peer (via 6) c)) (sent6 I (peer (via 6) c))) (by rfl) (by rfl)) $$ [HO Hh]
  · isplitr; · iexact HR
    isplitl [HO] <;> iassumption
  iintro ⟨HO, Hz, Hi⟩
  ihave Hi := (hold_rows c (off14_eq c).symm (k0_off12_inb (peer (via 6) c)) (k0_off14_inb c) (sent6 I (peer (via 6) c))) $$ Hi
  iapply (load_as c (m := near) (r := rH (k0_off14 c) (k0_off14_inb c)) (hr := fun _ => rfl) squeezes_S1x256x256_S256x256 _ (gotS (sent6 I (peer (via 6) c))) (by rfl)) $$ Hi
  iintro Hi
  ihave Hi := (hold_rows c (off14_eq c) (k0_off14_inb c) (k0_off12_inb (peer (via 6) c)) (sent6 I (peer (via 6) c))) $$ Hi
  iapply (load_whole 𝒱₀ (c : Thread nD τ) (m := oB) (res5 I c)) $$ Ho
  iintro Ho
  iapply (put_as c (m := oB) (res5 I c) (res6 I c) (by rfl)) $$ Ho
  iintro Ho
  ihave Hg := (gather7 I c) $$ [Hs Hi]
  · isplitl [Hs]; · iexact Hs
    iexact Hi
  iapply (send I K c 7 [] (dev10_eq c) (src := tall1 near) (dst := tall1 far) (by rfl) (by rfl) (sent7 I c) (by rfl) (by rfl) (by rfl) (by rfl)) $$ [HO Hr Hg Hl]
  · isplitr; · iexact HR
    isplitl [HO]; · iexact HO
    isplitl [Hr]; · iexact Hr
    isplitl [Hg] <;> iassumption
  iintro ⟨Hf', HO⟩
  rw [wp_ret]; imodintro
  iapply Hk
  isplitl [HO]; · iexact HO
  isplitl [Hz]; · iexact Hz
  isplitl [Ho]; · iexact Ho
  iexact Hf'

theorem part14 (v9 v10 v110 : BitVec 32) (Φ : _ → sProp (MT nD τ sig Unit (Elt F) ℕ UU ℕ)) :
    iprop(records I K ∗ owing c (dues c []) ∗ flying c 3 ∗ hearing c 3 ∗ hold c oB (res6 I c) ∗ flying c 7
        ∗ ((owing c (dues c []) ∗ semVal (sendCell c 3) 0 ∗ hold c (tall0 near) (sent3 I c)
            ∗ semVal (recvCell c 3) 0 ∗ hold c (tall0 far) (sent3 I (peer (via 3) c)) ∗ hold c oB (res7 I c)
            ∗ semVal (sendCell c 7) 0 ∗ hold c (tall1 near) (sent7 I c))
          -∗ Φ ⟨⟩))
      ⊢ wp frame (wpE (defs₀ (F := F)) 𝒱₀ (c : Thread nD τ) none) Set.univ
          (run14 (F := F) c v9 v10 v110) Φ := by
  simp only [run14, k0_part14_eq_skeleton]; unfold k0_part14_skel
  simp only [Prog.lift, Prog.bind_op, Prog.bind_ret, Prog.pure_eq_ret]
  iintro ⟨#HR, HO, Hf, Hh, Ho, Hf', Hk⟩
  iapply (wait_sent I K c 3 [] (by rfl) (hold c (tall0 near) (sent3 I c)) (by rfl) (by rfl)) $$ [HO Hf]
  · isplitr; · iexact HR
    isplitl [HO] <;> iassumption
  iintro ⟨HO, Hz, Hs⟩
  iapply (wait_heard I K c 3 [] (by decide) (by rfl) (hold c (tall0 far) (sent3 I (peer (via 3) c))) (by rfl) (by rfl)) $$ [HO Hh]
  · isplitr; · iexact HR
    isplitl [HO] <;> iassumption
  iintro ⟨HO, Hz', Hi⟩
  iapply (load_as c (m := far) (r := rT0) (hr := fun _ => rfl) squeezes_S1x512x256_S512x256 _ (gotT (sent3 I (peer (via 3) c))) (by rfl)) $$ Hi
  iintro Hi
  iapply (load_whole 𝒱₀ (c : Thread nD τ) (m := oB) (res6 I c)) $$ Ho
  iintro Ho
  iapply (put_as c (m := oB) (res6 I c) (res7 I c) (by rfl)) $$ Ho
  iintro Ho
  iapply (wait_sent I K c 7 [] (by rfl) (hold c (tall1 near) (sent7 I c)) (by rfl) (by rfl)) $$ [HO Hf']
  · isplitr; · iexact HR
    isplitl [HO] <;> iassumption
  iintro ⟨HO, Hz'', Hs'⟩
  rw [wp_ret]; imodintro
  iapply Hk
  isplitl [HO]; · iexact HO
  isplitl [Hz]; · iexact Hz
  isplitl [Hs]; · iexact Hs
  isplitl [Hz']; · iexact Hz'
  isplitl [Hi]; · iexact Hi
  isplitl [Ho]; · iexact Ho
  isplitl [Hz'']; · iexact Hz''
  iexact Hs'

end Parts

end Cert.KernelIdeal.Wave
-- ==== Proof.KernelIdeal.Body.lean ====
/-
The kernel body as a whole: a device's scratch buffers split into the slots the exchanges use, and the fourteen stretches
put together.
-/
module

public import proofs.«01_k».proof.Proof.KernelIdeal.Third

@[expose] public section

noncomputable section

namespace Cert.KernelIdeal.Wave

open Cert.KernelIdeal Cert.KernelIdeal.Gen Cert.Wire

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scratch buffers as slots -/

section Slots
variable (c : Dev nD)

/-- A whole scratch buffer, at some contents. -/
abbrev buf (b : Ref sig .tc) : sProp (MT nD τ sig Unit (Elt F) ℕ UU ℕ) :=
  iprop(∃ f : Buf (Elt F) ((c : Thread nD τ).loc b), ((c : Thread nD τ).loc b) ↦{fullShare} f)

/-- A buffer is two of its parts when these are disjoint and cover it. -/
theorem buf_split {s' s'' : Shape} (b : Ref sig .tc) (r r' : Rect b.ty.shape) (hr : ∀ a, r.stride a = 1) (hr' : ∀ a, r'.stride a = 1)
    (q : r.shape.Squeezes s') (q' : r'.shape.Squeezes s'') (hd : Disjoint r.set r'.set) (hu : r.set ∪ r'.set = Finset.univ) :
    (buf c b : sProp (MT nD τ sig Unit (Elt F) ℕ UU ℕ))
      = iprop(free c (((Memref.whole b).slice r hr).squeeze s' q) ∗ free c (((Memref.whole b).slice r' hr').squeeze s'' q')) := by
  unfold buf free
  rw [← bare_univ (c : Thread nD τ) b, has_slot, has_slot, ← hu, bare_union _ _ hd]

theorem tall_disjoint : Disjoint rT0.set rT1.set := by
  rw [Finset.disjoint_left]; intro i hi hi'
  have a := (mem_block 0 inb_S2x512x256_S1x512x256_0_0_0 i).mp hi
  have b := (mem_block 1 inb_S2x512x256_S1x512x256_1_0_0 i).mp hi'
  omega
theorem tall_cover : rT0.set ∪ rT1.set = Finset.univ := by
  ext i
  have hi : (i 0).val < 2 := (i 0).isLt
  have a := mem_block 0 inb_S2x512x256_S1x512x256_0_0_0 i
  have b := mem_block 1 inb_S2x512x256_S1x512x256_1_0_0 i
  simp only [Finset.mem_union, Finset.mem_univ, iff_true]
  rcases (by omega : (i 0).val = 0 ∨ (i 0).val = 1) with h | h
  · exact Or.inl (a.mpr h)
  · exact Or.inr (b.mpr h)
theorem mem_small (n : ℕ) (h : ∀ a, (![n, 0, 0] : Fin S2x256x256.rank → ℕ) a + S1x256x256.size a ≤ S2x256x256.size a) (i : S2x256x256.Idx) :
    i ∈ (Rect.unit (s := S2x256x256) ![n, 0, 0] S1x256x256.size h).set ↔ (i 0).val = n := by
  rw [Rect.mem_set_unit]
  constructor
  · intro hh
    have a0 : n ≤ (i 0).val ∧ (i 0).val < n + 1 := hh 0
    omega
  · intro h0 a
    fin_cases a
    · show n ≤ (i 0).val ∧ (i 0).val < n + 1; omega
    · exact ⟨Nat.zero_le _, (i 1).isLt⟩
    · exact ⟨Nat.zero_le _, (i 2).isLt⟩
theorem small_disjoint : Disjoint rS0.set rS1.set := by
  rw [Finset.disjoint_left]; intro i hi hi'
  have a := (mem_small 0 inb_S2x256x256_S1x256x256_0_0_0 i).mp hi
  have b := (mem_small 1 inb_S2x256x256_S1x256x256_1_0_0 i).mp hi'
  omega
theorem small_cover : rS0.set ∪ rS1.set = Finset.univ := by
  ext i
  have hi : (i 0).val < 2 := (i 0).isLt
  have a := mem_small 0 inb_S2x256x256_S1x256x256_0_0_0 i
  have b := mem_small 1 inb_S2x256x256_S1x256x256_1_0_0 i
  simp only [Finset.mem_union, Finset.mem_univ, iff_true]
  rcases (by omega : (i 0).val = 0 ∨ (i 0).val = 1) with h | h
  · exact Or.inl (a.mpr h)
  · exact Or.inr (b.mpr h)

theorem in1_eq : (buf c cc0_scratch0 : sProp (MT nD τ sig Unit (Elt F) ℕ UU ℕ)) = iprop(free c (tall0 in1) ∗ free c (tall1 in1)) :=
  buf_split c cc0_scratch0 rT0 rT1 (fun _ => rfl) (fun _ => rfl) squeezes_S1x512x256_S512x256 squeezes_S1x512x256_S512x256 tall_disjoint tall_cover
theorem in2_eq : (buf c cc0_scratch1 : sProp (MT nD τ sig Unit (Elt F) ℕ UU ℕ)) = iprop(free c (small0 in2) ∗ free c (small1 in2)) :=
  buf_split c cc0_scratch1 rS0 rS1 (fun _ => rfl) (fun _ => rfl) squeezes_S1x256x256_S256x256 squeezes_S1x256x256_S256x256 small_disjoint small_cover
theorem out1_eq : (buf c cc0_scratch2 : sProp (MT nD τ sig Unit (Elt F) ℕ UU ℕ)) = iprop(free c (tall0 out1) ∗ free c (tall1 out1)) :=
  buf_split c cc0_scratch2 rT0 rT1 (fun _ => rfl) (fun _ => rfl) squeezes_S1x512x256_S512x256 squeezes_S1x512x256_S512x256 tall_disjoint tall_cover
theorem out2_eq : (buf c cc0_scratch3 : sProp (MT nD τ sig Unit (Elt F) ℕ UU ℕ)) = iprop(free c (small0 out2) ∗ free c (small1 out2)) :=
  buf_split c cc0_scratch3 rS0 rS1 (fun _ => rfl) (fun _ => rfl) squeezes_S1x256x256_S256x256 squeezes_S1x256x256_S256x256 small_disjoint small_cover
theorem near_eq : (buf c cc0_scratch4 : sProp (MT nD τ sig Unit (Elt F) ℕ UU ℕ)) = iprop(free c (tall0 near) ∗ free c (tall1 near)) :=
  buf_split c cc0_scratch4 rT0 rT1 (fun _ => rfl) (fun _ => rfl) squeezes_S1x512x256_S512x256 squeezes_S1x512x256_S512x256 tall_disjoint tall_cover
theorem far_eq : (buf c cc0_scratch5 : sProp (MT nD τ sig Unit (Elt F) ℕ UU ℕ)) = iprop(free c (tall0 far) ∗ free c (tall1 far)) :=
  buf_split c cc0_scratch5 rT0 rT1 (fun _ => rfl) (fun _ => rfl) squeezes_S1x512x256_S512x256 squeezes_S1x512x256_S512x256 tall_disjoint tall_cover

theorem block_eq {n : ℕ} {o o' : Fin S2x512x256.rank → ℕ} (hp : Pair n o o') (h h')
    (hr : ∀ a, (![n, 0, 0] : Fin S2x512x256.rank → ℕ) a + S1x512x256.size a ≤ S2x512x256.size a) :
    (free c ((near.slice (Rect.unit (s := S2x512x256) ![n, 0, 0] S1x512x256.size hr) (fun _ => rfl)).squeeze S512x256
        squeezes_S1x512x256_S512x256) : sProp (MT nD τ sig Unit (Elt F) ℕ UU ℕ))
      = iprop(free c (rows near o h) ∗ free c (rows near o' h')) := by
  unfold free
  rw [has_slot, has_slot, has_slot, ← pair_union hp h h' hr, bare_union _ _ (pair_disjoint hp h h')]

theorem near0_eq : (free c (tall0 near) : sProp (MT nD τ sig Unit (Elt F) ℕ UU ℕ)) = iprop(free c (own2 c) ∗ free c (own2 (peer (via 2) c))) :=
  block_eq c (pair9 c) _ _ inb_S2x512x256_S1x512x256_0_0_0
theorem near1_eq : (free c (tall1 near) : sProp (MT nD τ sig Unit (Elt F) ℕ UU ℕ)) = iprop(free c (own6 c) ∗ free c (own6 (peer (via 6) c))) :=
  block_eq c (pair12 c) _ _ inb_S2x512x256_S1x512x256_1_0_0

/-- What a device hands its first partner on the barrier, -/
theorem hand_false : iprop(free c (tall0 in1) ∗ free c (tall0 far) ∗ free c (small1 in2) ∗ free c (own6 (peer (via 6) c)))
    ⊢ (barPay false (peer false c) : sProp (MT nD τ sig Unit (Elt F) ℕ UU ℕ)) := by
  have e : (barPay false (peer false c) : sProp (MT nD τ sig Unit (Elt F) ℕ UU ℕ))
      = iprop(free (peer false (peer false c)) (tall0 in1) ∗ free (peer false (peer false c)) (tall0 far)
        ∗ free (peer false (peer false c)) (small1 in2) ∗ free (peer false (peer false c)) (own6 (peer false c))) := rfl
  rw [e, peer_peer]
  exact .rfl
/-- and its second. -/
theorem hand_true : iprop(free c (small0 in2) ∗ free c (own2 (peer (via 2) c)) ∗ free c (tall1 in1) ∗ free c (tall1 far))
    ⊢ (barPay true (peer true c) : sProp (MT nD τ sig Unit (Elt F) ℕ UU ℕ)) := by
  have e : (barPay true (peer true c) : sProp (MT nD τ sig Unit (Elt F) ℕ UU ℕ))
      = iprop(free (peer true (peer true c)) (small0 in2) ∗ free (peer true (peer true c)) (own2 (peer true c))
        ∗ free (peer true (peer true c)) (tall1 in1) ∗ free (peer true (peer true c)) (tall1 far)) := rfl
  rw [e, peer_peer]
  exact .rfl
/-- What a device is handed on the barrier by its first partner, and by its second. -/
theorem given_false : (barPay false c : sProp (MT nD τ sig Unit (Elt F) ℕ UU ℕ)) ⊢ iprop(land 0 c ∗ land 3 c ∗ land 5 c ∗ land 6 c) :=
  .rfl
theorem given_true : (barPay true c : sProp (MT nD τ sig Unit (Elt F) ℕ UU ℕ)) ⊢ iprop(land 1 c ∗ land 2 c ∗ land 4 c ∗ land 7 c) :=
  .rfl
end Slots

/-- The transfers conjoined one by one. -/
theorem each (Φ : Fin 8 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

section Walk
variable (I : Feeds F) (K : Dev nD × Fin 17 → ℕ) (c : Dev nD)

/-- What a device starts with, beside its inputs and its result buffer: its debts, the rights to pay them, what it is to be
    paid, and its scratch buffers. -/
def purse : sProp (MT nD τ sig Unit (Elt F) ℕ UU ℕ) :=
  iprop((dutyTok ER (barCell (peer false c)) 0 false ∗ dutyTok ER (barCell (peer true c)) 0 true)
    ∗ (cred (tallyAt (barCell c) () 2) ∗ atPos ER (barCell c) 0 ∅ 0)
    ∗ bigSep Finset.univ (fun k => ready (F := F) c k) ∗ bigSep Finset.univ (fun k => hearing (F := F) c k))

/-- Its six scratch buffers. -/
def desk : sProp (MT nD τ sig Unit (Elt F) ℕ UU ℕ) :=
  iprop(buf c cc0_scratch0 ∗ buf c cc0_scratch1 ∗ buf c cc0_scratch2 ∗ buf c cc0_scratch3 ∗ buf c cc0_scratch4 ∗ buf c cc0_scratch5)

/-- Its inputs. -/
def fed : sProp (MT nD τ sig Unit (Elt F) ℕ UU ℕ) :=
  iprop(hold c xB (I.x c) ∗ hold c gB (I.g c) ∗ hold c iB (I.i c) ∗ hold c wB (I.w c))

/-- Its semaphores, all at zero. -/
def calm : sProp (MT nD τ sig Unit (Elt F) ℕ UU ℕ) :=
  iprop(semVal (barCell c) 0 ∗ bigSep Finset.univ (fun k => semVal (sendCell c k) 0) ∗ bigSep Finset.univ (fun k => semVal (recvCell c k) 0))

/-- The body. -/
abbrev whole : Prog (TpuEff nD τ sig (Elt F) Λ₀ .tc) PUnit :=
  cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7

set_option maxHeartbeats 2000000 in
/-- The body takes a device from what it starts with to the result buffer at the sum, every debt paid and every semaphore at zero. -/
theorem walk (Φ : PUnit → sProp (MT nD τ sig Unit (Elt F) ℕ UU ℕ)) :
    iprop(records I K ∗ owing c (debt c) ∗ purse c ∗ desk c ∗ fed I c ∗ free c oB
        ∗ ((owing c (dues c []) ∗ calm c ∗ desk c ∗ fed I c ∗ hold c oB (res8 I c)) -∗ Φ ⟨⟩))
      ⊢ wp frame (wpE (defs₀ (F := F)) 𝒱₀ (c : Thread nD τ) none) Set.univ (whole (F := F)) Φ := by
  simp only [whole, cc0_body_eq_skeleton]; unfold cc0_body_skel
  unfold purse desk fed calm
  simp only [each, in1_eq, in2_eq, out1_eq, out2_eq, near_eq, far_eq]
  rw [near0_eq, near1_eq]
  iintro ⟨#HR, HO, ⟨⟨Ht1, Ht2⟩, ⟨Hc, Hat⟩, ⟨Hr0, Hr1, Hr2, Hr3, Hr4, Hr5, Hr6, Hr7⟩, ⟨Hh0, Hh1, Hh2, Hh3, Hh4, Hh5, Hh6, Hh7⟩⟩,
    ⟨⟨Ha0, Ha1⟩, ⟨Hb0, Hb1⟩, ⟨Hs0, Hs1⟩, ⟨Hq0, Hq1⟩, ⟨⟨Hn0, Hn1⟩, ⟨Hn2, Hn3⟩⟩, ⟨Hf0, Hf1⟩⟩, ⟨Hx, Hg, Hi, Hw⟩, Ho, Hk⟩
  ihave Hp1 := (hand_false c) $$ [Ha0 Hf0 Hb1 Hn3]
  · isplitl [Ha0]; · iexact Ha0
    isplitl [Hf0]; · iexact Hf0
    isplitl [Hb1] <;> iassumption
  ihave Hp2 := (hand_true c) $$ [Hb0 Hn1 Ha1 Hf1]
  · isplitl [Hb0]; · iexact Hb0
    isplitl [Hn1]; · iexact Hn1
    isplitl [Ha1] <;> iassumption
  rw [wp_bind]
  iapply (part1 I K c _)
  isplitr; · iexact HR
  isplitl [HO]; · iexact HO
  isplitl [Ht1 Hp1]; · isplitl [Ht1] <;> iassumption
  isplitl [Ht2 Hp2]; · isplitl [Ht2] <;> iassumption
  isplitl [Hc]; · iexact Hc
  isplitl [Hat]; · iexact Hat
  isplitl [Hx]; · iexact Hx
  isplitl [Hg]; · iexact Hg
  isplitl [Hi]; · iexact Hi
  iintro %v4 %v8 %v9 %v10 ⟨HO, HzB, Hb1, Hb2, Hx, Hg, Hi⟩
  dsimp only
  rw [wp_bind]
  iapply (part2 I c _)
  isplitl [Hi]; · iexact Hi
  iintro Hi
  dsimp only
  rw [wp_bind]
  iapply (part3 I c v4 v8 _)
  iintro %v108 %v110 %v112 %v115 %v116 %v118 %v119
  dsimp only
  rw [wp_bind]
  iapply (part4 I c v4 v8 v110 v119 _)
  isplitl [Hw]; · iexact Hw
  isplitl [Ho]; · iexact Ho
  isplitl [Hs0]; · iexact Hs0
  iintro %v121 %v123 %v126 %v127 %v129 %g ⟨Hw, Ho, Hs0⟩
  rw [left_read I c g]
  dsimp only
  ihave Hb1 := (given_false c) $$ Hb1
  ihave Hb2 := (given_true c) $$ Hb2
  icases Hb1 with ⟨Hl0, Hl3, Hl5, Hl6⟩
  icases Hb2 with ⟨Hl1, Hl2, Hl4, Hl7⟩
  rw [wp_bind]
  iapply (part5 I K c v9 v121 _ g)
  isplitr; · iexact HR
  isplitl [HO]; · iexact HO
  isplitl [Hr0]; · iexact Hr0
  isplitl [Hs0]; · iexact Hs0
  isplitl [Hl0]; · iexact Hl0
  isplitl [Ho]; · iexact Ho
  isplitl [Hs1]; · iexact Hs1
  iintro ⟨HO, Hy0, Ho, Hs1⟩
  rw [wp_bind]
  iapply (part6 I K c v9 v10 v108 _)
  isplitr; · iexact HR
  isplitl [HO]; · iexact HO
  isplitl [Hr4]; · iexact Hr4
  isplitl [Hs1]; · iexact Hs1
  isplitl [Hl4]; · iexact Hl4
  isplitl [Hy0]; · iexact Hy0
  isplitl [Hh0]; · iexact Hh0
  isplitl [Ho]; · iexact Ho
  iintro ⟨HO, Hy4, HzS0, Hs0, HzR0, Ha0, Ho⟩
  rw [wp_bind]
  iapply (part7 I K c v10 v108 v115 _)
  isplitr; · iexact HR
  isplitl [HO]; · iexact HO
  isplitl [Hr1]; · iexact Hr1
  isplitl [Hq0]; · iexact Hq0
  isplitl [Hl1]; · iexact Hl1
  isplitl [Ha0]; · iexact Ha0
  isplitl [Ho]; · iexact Ho
  iintro ⟨HO, Hy1, Ha0, Ho⟩
  rw [wp_bind]
  iapply (part8 I K c v9 v10 v119 v126 _)
  isplitr; · iexact HR
  isplitl [HO]; · iexact HO
  isplitl [Hy4]; · iexact Hy4
  isplitl [Hh4]; · iexact Hh4
  isplitl [Ho]; · iexact Ho
  isplitl [Hq1]; · iexact Hq1
  iintro ⟨HO, HzS4, Hs1, HzR4, Ha1, Ho, Hq1⟩
  rw [wp_bind]
  iapply (part9 I K c v10 v112 _)
  isplitr; · iexact HR
  isplitl [HO]; · iexact HO
  isplitl [Hr5]; · iexact Hr5
  isplitl [Hq1]; · iexact Hq1
  isplitl [Hl5]; · iexact Hl5
  isplitl [Hy1]; · iexact Hy1
  isplitl [Hh1]; · iexact Hh1
  isplitl [Ho]; · iexact Ho
  iintro ⟨HO, Hy5, HzS1, Hq0, HzR1, Hb0, Ho⟩
  rw [wp_bind]
  iapply (part10 I K c v9 v10 v116 _)
  isplitr; · iexact HR
  isplitl [HO]; · iexact HO
  isplitl [Hr2]; · iexact Hr2
  isplitl [Hn0]; · iexact Hn0
  isplitl [Hl2]; · iexact Hl2
  isplitl [Hy5]; · iexact Hy5
  isplitl [Hh5]; · iexact Hh5
  iintro ⟨HO, Hy2, HzS5, Hq1, HzR5, Hb1⟩
  rw [wp_bind]
  iapply (part11 I K c v9 v123 v127 _)
  isplitr; · iexact HR
  isplitl [HO]; · iexact HO
  isplitl [Ho]; · iexact Ho
  isplitl [Hb1]; · iexact Hb1
  isplitl [Hn2]; · iexact Hn2
  isplitl [Hr6]; · iexact Hr6
  isplitl [Hl6]; · iexact Hl6
  isplitl [Hy2]; · iexact Hy2
  iintro ⟨HO, Hy6, Ho, Hb1, HzS2, Hn0⟩
  rw [wp_bind]
  iapply (part12 I K c v9 v10 v108 v118 _)
  isplitr; · iexact HR
  isplitl [HO]; · iexact HO
  isplitl [Hh2]; · iexact Hh2
  isplitl [Ho]; · iexact Ho
  isplitl [Hn0]; · iexact Hn0
  isplitl [Hr3]; · iexact Hr3
  isplitl [Hl3]; · iexact Hl3
  isplitl [Hy6]; · iexact Hy6
  iintro ⟨HO, HzR2, Ho, Hy3, HzS6, Hn2⟩
  rw [wp_bind]
  iapply (part13 I K c v9 v10 v119 v129 _)
  isplitr; · iexact HR
  isplitl [HO]; · iexact HO
  isplitl [Hh6]; · iexact Hh6
  isplitl [Ho]; · iexact Ho
  isplitl [Hn2]; · iexact Hn2
  isplitl [Hr7]; · iexact Hr7
  isplitl [Hl7]; · iexact Hl7
  iintro ⟨HO, HzR6, Ho, Hy7⟩
  rw [wp_bind]
  iapply (part14 I K c v9 v10 v110 _)
  isplitr; · iexact HR
  isplitl [HO]; · iexact HO
  isplitl [Hy3]; · iexact Hy3
  isplitl [Hh3]; · iexact Hh3
  isplitl [Ho]; · iexact Ho
  isplitl [Hy7]; · iexact Hy7
  iintro ⟨HO, HzS3, Hn0, HzR3, Hf0, Ho, HzS7, Hn2⟩
  simp only [Prog.lift, Prog.bind_op, Prog.bind_ret, Prog.pure_eq_ret]
  iapply (wait_heard I K c 7 [] (by decide) (by rfl) (hold c (tall1 far) (sent7 I (peer (via 7) c))) (by rfl) (by rfl)) $$ [HO Hh7]
  · isplitr; · iexact HR
    isplitl [HO] <;> iassumption
  iintro ⟨HO, HzR7, Hf1⟩
  iapply (load_as c (m := far) (r := rT1) (hr := fun _ => rfl) squeezes_S1x512x256_S512x256 _ (gotT (sent7 I (peer (via 7) c))) (by rfl)) $$ Hf1
  iintro Hf1
  iapply (load_whole 𝒱₀ (c : Thread nD τ) (m := oB) (res7 I c)) $$ Ho
  iintro Ho
  iapply (put_as c (m := oB) (res7 I c) (res8 I c) (by rfl)) $$ Ho
  iintro Ho
  rw [wp_ret]; imodintro
  rw [← near0_eq, ← near1_eq]
  iapply Hk
  isplitl [HO]; · iexact HO
  isplitl [HzB HzS0 HzS1 HzS2 HzS3 HzS4 HzS5 HzS6 HzS7 HzR0 HzR1 HzR2 HzR3 HzR4 HzR5 HzR6 HzR7]
  · isplitl [HzB]; · iexact HzB
    isplitl [HzS0 HzS1 HzS2 HzS3 HzS4 HzS5 HzS6 HzS7]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6] <;> iassumption
    · isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6] <;> iassumption
  isplitl [Ha0 Ha1 Hb0 Hb1 Hs0 Hs1 Hq0 Hq1 Hn0 Hn2 Hf0 Hf1]
  · isplitl [Ha0 Ha1]
    · isplitl [Ha0]; · iapply (has_of_owns (c : Thread nD τ) (tall0 in1) _) $$ Ha0
      iapply (has_of_owns (c : Thread nD τ) (tall1 in1) _) $$ Ha1
    isplitl [Hb0 Hb1]
    · isplitl [Hb0]; · iapply (has_of_owns (c : Thread nD τ) (small0 in2) _) $$ Hb0
      iapply (has_of_owns (c : Thread nD τ) (small1 in2) _) $$ Hb1
    isplitl [Hs0 Hs1]
    · isplitl [Hs0]; · iapply (has_of_owns (c : Thread nD τ) (tall0 out1) _) $$ Hs0
      iapply (has_of_owns (c : Thread nD τ) (tall1 out1) _) $$ Hs1
    isplitl [Hq0 Hq1]
    · isplitl [Hq0]; · iapply (has_of_owns (c : Thread nD τ) (small0 out2) _) $$ Hq0
      iapply (has_of_owns (c : Thread nD τ) (small1 out2) _) $$ Hq1
    isplitl [Hn0 Hn2]
    · isplitl [Hn0]; · iapply (has_of_owns (c : Thread nD τ) (tall0 near) _) $$ Hn0
      iapply (has_of_owns (c : Thread nD τ) (tall1 near) _) $$ Hn2
    isplitl [Hf0]; · iapply (has_of_owns (c : Thread nD τ) (tall0 far) _) $$ Hf0
    iapply (has_of_owns (c : Thread nD τ) (tall1 far) _) $$ Hf1
  isplitl [Hx Hg Hi Hw]
  · isplitl [Hx]; · iexact Hx
    isplitl [Hg]; · iexact Hg
    isplitl [Hi] <;> iassumption
  iexact Ho
end Walk

end Cert.KernelIdeal.Wave
-- ==== Proof.KernelIdeal.Launch.lean ====
/-
The launch: the schedule's resources made and dealt to the devices, each device's body run on them, and what the four
devices' memories hold at the end.
-/
module

public import proofs.«01_k».proof.Proof.KernelIdeal.Body
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Wave

open Cert.KernelIdeal Cert.KernelIdeal.Gen Cert.Wire

open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Launch
variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- What the inputs' copies in the vector memory hold. -/
def feeds : Feeds F where
  x c := (win0_0.blk (0 : Fin 1)).view.read (Elt F) ((s₀ m ρ).mem ((c : Thread nD τ).loc main_arg0))
  g c := (win0_1.blk (0 : Fin 1)).view.read (Elt F) ((s₀ m ρ).mem ((c : Thread nD τ).loc main_arg1))
  i c := (win0_2.blk (0 : Fin 1)).view.read (Elt F) ((s₀ m ρ).mem ((c : Thread nD τ).loc main_arg2))
  w c := (win0_3.blk (0 : Fin 1)).view.read (Elt F) ((s₀ m ρ).mem ((c : Thread nD τ).loc main_arg3))

/-! ## The body's obligation -/

/-- What a device's body begins with, beside its windows, -/
def start (c : Dev nD) : sProp (MT nD τ sig Unit (Elt F) ℕ UU ℕ) := iprop((∃ K, records (feeds m ρ) K) ∗ purse c)
/-- and ends with. -/
def Φ₀ (c : Dev nD) : sProp (MT nD τ sig Unit (Elt F) ℕ UU ℕ) := iprop(start m ρ c ∗ desk c)
def Φ₁ (c : Dev nD) : sProp (MT nD τ sig Unit (Elt F) ℕ UU ℕ) := iprop(calm c ∗ desk c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (feeds m ρ).x c
    | ⟨1, _⟩ => (feeds m ρ).g c
    | ⟨2, _⟩ => (feeds m ρ).i c
    | ⟨3, _⟩ => (feeds m ρ).w c
    | ⟨4, _⟩ => res8 (feeds m ρ) c
  Φ t := match t with
    | ⟨0, _⟩ => Φ₀ m ρ c
    | ⟨_ + 1, _⟩ => Φ₁ c
  q _ := fullShare
  owed t := match t with
    | ⟨0, _⟩ => debt c
    | ⟨_ + 1, _⟩ => 0

set_option maxRecDepth 4000 in
def bodyPre (c : Dev nD) : sProp (MT nD τ sig Unit (Elt F) ℕ UU ℕ) :=
  iprop(Φ₀ m ρ c ∗ (dats m ρ 0 c).owesAt () t0_0.castSucc
    ∗ (∃ d, owns (c : Thread nD τ) xB fullShare ((dats m ρ 0 c).before (0 : Fin 5) t0_0 d))
    ∗ (∃ d, owns (c : Thread nD τ) gB fullShare ((dats m ρ 0 c).before (1 : Fin 5) t0_0 d))
    ∗ (∃ d, owns (c : Thread nD τ) iB fullShare ((dats m ρ 0 c).before (2 : Fin 5) t0_0 d))
    ∗ (∃ d, owns (c : Thread nD τ) wB fullShare ((dats m ρ 0 c).before (3 : Fin 5) t0_0 d))
    ∗ (∃ d, owns (c : Thread nD τ) oB fullShare ((dats m ρ 0 c).before (4 : Fin 5) t0_0 d)))

set_option maxRecDepth 4000 in
def bodyPost (c : Dev nD) : sProp (MT nD τ sig Unit (Elt F) ℕ UU ℕ) :=
  iprop(Φ₁ c ∗ (dats m ρ 0 c).owesAt () t0_0.succ
    ∗ hold c xB ((feeds m ρ).x c) ∗ hold c gB ((feeds m ρ).g c) ∗ hold c iB ((feeds m ρ).i c) ∗ hold c wB ((feeds m ρ).w c)
    ∗ hold c oB (res8 (feeds m ρ) c))

section Before
variable (c : Dev nD)
theorem before_x (d) : (dats m ρ 0 c).before (0 : Fin 5) t0_0 d = (feeds m ρ).x c := by unfold Dat.before; rw [if_pos (fetch0_0 t0_0)]; rfl
theorem before_g (d) : (dats m ρ 0 c).before (1 : Fin 5) t0_0 d = (feeds m ρ).g c := by unfold Dat.before; rw [if_pos (fetch0_1 t0_0)]; rfl
theorem before_i (d) : (dats m ρ 0 c).before (2 : Fin 5) t0_0 d = (feeds m ρ).i c := by unfold Dat.before; rw [if_pos (fetch0_2 t0_0)]; rfl
theorem before_w (d) : (dats m ρ 0 c).before (3 : Fin 5) t0_0 d = (feeds m ρ).w c := by unfold Dat.before; rw [if_pos (fetch0_3 t0_0)]; rfl
end Before

/-- The body runs from `bodyPre` to `bodyPost`. -/
theorem body_run (c : Dev nD) :
    bodyPre m ρ c ⊢ wp frame (wpE (defs₀ (F := F)) 𝒱₀ (c : Thread nD τ) none) Set.univ (whole (F := F)) (fun _ => bodyPost m ρ c) := by
  unfold bodyPre Φ₀ start
  simp only [before_x, before_g, before_i, before_w]
  iintro ⟨⟨⟨⟨%K, #HR⟩, Hp⟩, Hd⟩, Ho, ⟨%d0, Hx⟩, ⟨%d1, Hg⟩, ⟨%d2, Hi⟩, ⟨%d3, Hw⟩, ⟨%d4, Hout⟩⟩
  unfold Dat.owesAt Pipeline.owesWithin
  icases Ho with ⟨%W, %hW, HO⟩
  rw [show (dats m ρ 0 c).owed t0_0.castSucc = debt c from rfl]
  iapply (walk (feeds m ρ) K c (fun _ => bodyPost m ρ c))
  isplitr; · iexact HR
  isplitl [HO]; · unfold owing; iexists W; iexact HO
  isplitl [Hp]; · iexact Hp
  isplitl [Hd]; · iexact Hd
  isplitl [Hx Hg Hi Hw]
  · unfold fed
    isplitl [Hx]; · iexact Hx
    isplitl [Hg]; · iexact Hg
    isplitl [Hi] <;> iassumption
  isplitl [Hout]
  · iapply (has_of_owns (c : Thread nD τ) oB _) $$ Hout
  iintro ⟨HO, Hz, Hd, Hf, Hout⟩
  unfold bodyPost Φ₁ Dat.owesAt Pipeline.owesWithin fed owing
  rw [show (dats m ρ 0 c).owed t0_0.succ = 0 from rfl]
  icases HO with ⟨%W', HO⟩
  icases Hf with ⟨Hx, Hg, Hi, Hw⟩
  isplitl [Hz Hd]; · isplitl [Hz] <;> iassumption
  isplitl [HO]
  · iexists W'; isplitr; · ipureintro; exact fun _ _ => Or.inl trivial
    iexact HO
  isplitl [Hx]; · iexact Hx
  isplitl [Hg]; · iexact Hg
  isplitl [Hi]; · iexact Hi
  isplitl [Hw] <;> iassumption

set_option maxRecDepth 4000 in
set_option maxHeartbeats 4000000 in
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c : Thread nD τ) none) Set.univ (whole (F := F)) (fun _ => bodyPost m ρ c)
  exact body_run m ρ c

/-! ## The launch's resources -/

/-- The semaphores of the launch, but the barrier. -/
def osem (i : Fin 16) : SemLoc sig := csem i.succ

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def ourCells : Finset (GSem nD τ sig) := Finset.univ.map ⟨kcell, kcell_injective⟩

/-- The duties of a device's own semaphores: the barrier's second, then each semaphore's first. -/
def duty (j : Fin 18) : SemLoc sig × ℕ × Bool :=
  if h : j.val = 0 then (.reg barS, 0, true) else (csem ⟨j.val - 1, by have := j.isLt; omega⟩, 0, false)
theorem duty_injective : Function.Injective duty := by decide
def tokOf (p : Dev nD × Fin 18) : GSem nD τ sig × ℕ × Bool := (((p.1 : Thread nD τ), (duty p.2).1), (duty p.2).2)
theorem tokOf_injective : Function.Injective tokOf := by
  rintro ⟨c, j⟩ ⟨c', j'⟩ h
  have h1 : c = c' := congrArg (fun x : GSem nD τ sig × ℕ × Bool => x.1.1.1) h
  have h2 : j = j' := duty_injective (Prod.ext (congrArg (fun x : GSem nD τ sig × ℕ × Bool => x.1.2) h)
    (congrArg (fun x : GSem nD τ sig × ℕ × Bool => x.2) h))
  rw [h1, h2]
def ourToks : Finset (GSem nD τ sig × ℕ × Bool) := Finset.univ.map ⟨tokOf, tokOf_injective⟩

def u₀ : UU := (initOf (Pipeline.cells cfgs cellOf_inj) (Pipeline.launchToks cfgs cellOf_inj), initOf ourCells ourToks)

/-- Something of every semaphore of a device: of the barrier, of the send semaphores, of the receive semaphores. -/
theorem bigSep_sems (Ψ : Fin 17 → sProp (MT nD τ sig Unit (Elt F) ℕ UU ℕ)) :
    bigSep Finset.univ Ψ
      = iprop(Ψ 0 ∗ (bigSep Finset.univ fun k => Ψ (iSend k)) ∗ bigSep Finset.univ fun k => Ψ (iRecv k)) := by
  have all : bigSep Finset.univ Ψ = iprop(Ψ 0 ∗ Ψ 1 ∗ Ψ 2 ∗ Ψ 3 ∗ Ψ 4 ∗ Ψ 5 ∗ Ψ 6 ∗ Ψ 7 ∗ Ψ 8 ∗ Ψ 9 ∗ Ψ 10 ∗ Ψ 11 ∗ Ψ 12 ∗ Ψ 13
      ∗ Ψ 14 ∗ Ψ 15 ∗ Ψ 16) :=
    bigSep_univ_eq_bigSepL [0, 1, 2, 3, 4, 5, 6, 7, 8, 9, 10, 11, 12, 13, 14, 15, 16] (by decide) (by decide) Ψ
  have out : (bigSep Finset.univ fun k => Ψ (iSend k)) = iprop(Ψ 1 ∗ Ψ 2 ∗ Ψ 3 ∗ Ψ 4 ∗ Ψ 5 ∗ Ψ 6 ∗ Ψ 7 ∗ Ψ 8) := each _
  have inn : (bigSep Finset.univ fun k => Ψ (iRecv k)) = iprop(Ψ 9 ∗ Ψ 10 ∗ Ψ 11 ∗ Ψ 12 ∗ Ψ 13 ∗ Ψ 14 ∗ Ψ 15 ∗ Ψ 16) := each _
  rw [all, out, inn]
  refine BI.Entails.antisymm (show _ ⊢ (_ : sProp (MT nD τ sig Unit (Elt F) ℕ UU ℕ)) from ?_) (show _ ⊢ (_ : sProp (MT nD τ sig Unit (Elt F) ℕ UU ℕ)) from ?_)
  · iintro ⟨H0, H1, H2, H3, H4, H5, H6, H7, H8, Hr⟩
    isplitl [H0]; · iexact H0
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hr
  · iintro ⟨H0, ⟨H1, H2, H3, H4, H5, H6, H7, H8⟩, Hr⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hr

/-- A thing of every index is the first's and the others'. -/
theorem bigSep_first {n : ℕ} (Ψ : Fin (n + 1) → sProp (MT nD τ sig Unit (Elt F) ℕ UU ℕ)) :
    bigSep Finset.univ Ψ = iprop(Ψ 0 ∗ bigSep Finset.univ fun i => Ψ (Fin.succ i)) := by
  rw [Fin.univ_succ, Finset.cons_eq_insert, bigSep_insert (by simp), BI.bigSep_map]; rfl

/-- The tokens of a device's own semaphores' duties. -/
def toks (c : Dev nD) : sProp (MT nD τ sig Unit (Elt F) ℕ UU ℕ) :=
  iprop(dutyTok ER (barCell c) 0 true ∗ dutyTok ER (barCell c) 0 false
    ∗ (bigSep Finset.univ fun k => dutyTok ER (sendCell c k) 0 false) ∗ bigSep Finset.univ fun k => dutyTok ER (recvCell c k) 0 false)

def G (c : Dev nD) : sProp (MT nD τ sig Unit (Elt F) ℕ UU ℕ) :=
  iprop((bigSep Finset.univ fun k : Fin 17 => roundState ER (plan (feeds m ρ)) (kcell (c, k)) 0)
    ∗ (bigSep Finset.univ fun k : Fin 17 => iprop(atPos ER (kcell (c, k)) 0 ∅ 0 ∗ reached ER (kcell (c, k)) 0)) ∗ toks c)

/-- The schedule's records without the levels. -/
def base (K : Dev nD × Fin 17 → ℕ) : sProp (MT nD τ sig Unit (Elt F) ℕ UU ℕ) :=
  iprop((bigSep Finset.univ fun p : Dev nD × Fin 17 => cellInv ER (plan (feeds m ρ)) (K p) (kcell p))
    ∗ (bigSep Finset.univ fun p : Dev nD × Fin 17 => reached ER (kcell p) 0))
instance base_persistent (K : Dev nD × Fin 17 → ℕ) : BI.Persistent (base m ρ K) := by unfold base; infer_instance

/-- A device's places at its own semaphores. -/
def places (c : Dev nD) : sProp (MT nD τ sig Unit (Elt F) ℕ UU ℕ) :=
  bigSep Finset.univ fun k : Fin 17 => atPos ER (kcell (c, k)) 0 ∅ 0
/-- The tokens of the duties a device is to pay. -/
def payToks (c : Dev nD) : sProp (MT nD τ sig Unit (Elt F) ℕ UU ℕ) :=
  iprop(dutyTok ER (barCell (peer true c)) 0 true ∗ dutyTok ER (barCell (peer false c)) 0 false
    ∗ (bigSep Finset.univ fun k => dutyTok ER (sendCell c k) 0 false)
    ∗ bigSep Finset.univ fun k => dutyTok ER (recvCell (peer (via k) c) k) 0 false)

def G' (c : Dev nD) : sProp (MT nD τ sig Unit (Elt F) ℕ UU ℕ) := iprop(∃ K, base m ρ K ∗ places c ∗ payToks c)

theorem fund_ours : BI.own (ER (initOf ourCells ourToks)) ⊢ (|==> bigSep Finset.univ (G m ρ) : sProp (MT nD τ sig Unit (Elt F) ℕ UU ℕ)) := by
  have hX (Φ : GSem nD τ sig → sProp (MT nD τ sig Unit (Elt F) ℕ UU ℕ)) :
      bigSep ourCells Φ = bigSep Finset.univ fun c : Dev nD => bigSep Finset.univ fun k : Fin 17 => Φ (kcell (c, k)) := by
    unfold ourCells; rw [BI.bigSep_map, bigSep_univ_prod]; rfl
  have hT : bigSep ourToks (fun x => (dutyTok ER x.1 x.2.1 x.2.2 : sProp (MT nD τ sig Unit (Elt F) ℕ UU ℕ)))
      = bigSep Finset.univ fun c : Dev nD => toks c := by
    unfold ourToks; rw [BI.bigSep_map, bigSep_univ_prod]
    refine bigSep_congr fun c _ => ?_
    unfold toks
    rw [bigSep_first, bigSep_sems]
    simp only [← kcell_send, ← kcell_recv]
    rfl
  iintro HX
  imod (Rounds.fund ER (plan (feeds m ρ)) ourCells ourToks) $$ HX with ⟨Hst, Hr, Hat, Htok⟩
  imodintro
  ihave Hst' := (Entails.of_eq (hX fun g => roundState ER (plan (feeds m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp (MT nD τ sig Unit (Elt F) ℕ UU ℕ)) = semVal (barCell c) 0 := by
  unfold unscopedSems0; rw [bigSep_eq_bigSepL_of_eq [SemLoc.reg barS] (by decide) (by decide)]; rfl

/-- A device's semaphores, the barrier among them. -/
theorem sems_eq (c : Dev nD) :
    (bigSep Finset.univ fun k : Fin 17 => (semVal (kcell (c, k)) 0 : sProp (MT nD τ sig Unit (Elt F) ℕ UU ℕ)))
      = iprop(unscopedSems0 c ∗ Pipeline.ownSems0 osem c) := by
  rw [bigSep_first, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (plan (feeds m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 17 => semVal (kcell (c, k)) 0) ∗ bigSep Finset.univ fun k : Fin 17 => roundState ER (plan (feeds m ρ)) (kcell (c, k)) 0)
      ⊢ (|={Set.univ}=> bigSep Finset.univ fun k => iprop(∃ κ : ℕ, cellInv ER (plan (feeds m ρ)) κ (kcell (c, k))) : sProp (MT nD τ sig Unit (Elt F) ℕ UU ℕ)) from by
        rw [← bigSep_sep']
        exact (bigSep_mono fun k _ => (Rounds.body_intro ER (plan (feeds m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Something of every transfer of every device, said of the partners instead. -/
theorem swap_recv (Ψ : Dev nD → Fin 8 → sProp (MT nD τ sig Unit (Elt F) ℕ UU ℕ)) :
    (bigSep Finset.univ fun c : Dev nD => bigSep Finset.univ fun k => Ψ c k)
      = bigSep Finset.univ fun c : Dev nD => bigSep Finset.univ fun k => Ψ (peer (via k) c) k := by
  simp only [each, bigSep_sep']
  rw [bigSep_univ_equiv (swap (via 0)) fun c => Ψ c 0, bigSep_univ_equiv (swap (via 1)) fun c => Ψ c 1,
    bigSep_univ_equiv (swap (via 2)) fun c => Ψ c 2, bigSep_univ_equiv (swap (via 3)) fun c => Ψ c 3,
    bigSep_univ_equiv (swap (via 4)) fun c => Ψ c 4, bigSep_univ_equiv (swap (via 5)) fun c => Ψ c 5,
    bigSep_univ_equiv (swap (via 6)) fun c => Ψ c 6, bigSep_univ_equiv (swap (via 7)) fun c => Ψ c 7]
  rfl

/-- The tokens go to the partners who are to pay. -/
theorem toks_around : (bigSep Finset.univ fun c : Dev nD => (toks c : sProp (MT nD τ sig Unit (Elt F) ℕ UU ℕ)))
    = bigSep Finset.univ fun c : Dev nD => payToks c := by
  unfold toks payToks
  rw [bigSep_sep', bigSep_sep', bigSep_sep', bigSep_sep', bigSep_sep', bigSep_sep',
    bigSep_univ_equiv (swap true) (fun c : Dev nD => (dutyTok ER (barCell c) 0 true : sProp (MT nD τ sig Unit (Elt F) ℕ UU ℕ))),
    bigSep_univ_equiv (swap false) (fun c : Dev nD => (dutyTok ER (barCell c) 0 false : sProp (MT nD τ sig Unit (Elt F) ℕ UU ℕ))),
    swap_recv fun c k => dutyTok ER (recvCell c k) 0 false]
  rfl

theorem regroup :
    (bigSep Finset.univ fun c : Dev nD => iprop((bigSep Finset.univ fun k => iprop(∃ κ : ℕ, cellInv ER (plan (feeds m ρ)) κ (kcell (c, k))))
          ∗ (bigSep Finset.univ fun k => iprop(atPos ER (kcell (c, k)) 0 ∅ 0 ∗ reached ER (kcell (c, k)) 0)) ∗ toks c) : sProp (MT nD τ sig Unit (Elt F) ℕ UU ℕ))
      ⊢ bigSep Finset.univ (G' m ρ) := by
  rw [bigSep_sep', bigSep_sep', ← bigSep_univ_prod (fun ck : Dev nD × Fin 17 => iprop(∃ κ : ℕ, cellInv ER (plan (feeds m ρ)) κ (kcell ck))),
    bigSep_congr (s := Finset.univ) (fun (c : Dev nD) _ => bigSep_sep' Finset.univ (fun k : Fin 17 => (atPos ER (kcell (c, k)) 0 ∅ 0 : sProp (MT nD τ sig Unit (Elt F) ℕ UU ℕ))) (fun k => reached ER (kcell (c, k)) 0)),
    bigSep_sep', ← bigSep_univ_prod (fun ck : Dev nD × Fin 17 => (reached ER (kcell ck) 0 : sProp (MT nD τ sig Unit (Elt F) ℕ UU ℕ))), toks_around]
  iintro ⟨HI, ⟨Hat, #HR⟩, Htok⟩
  ihave HK := (BI.bigSep_exists_pi Finset.univ (fun (ck : Dev nD × Fin 17) (κ : ℕ) => (cellInv ER (plan (feeds m ρ)) κ (kcell ck) : sProp (MT nD τ sig Unit (Elt F) ℕ UU ℕ)))) $$ HI
  icases HK with ⟨%K, #HI⟩
  have one (c : Dev nD) : iprop(base m ρ K ∗ places c ∗ payToks c) ⊢ G' m ρ c := by
    unfold G'; iintro H; iexists K; iexact H
  have all : iprop(base m ρ K ∗ bigSep Finset.univ fun c : Dev nD => iprop(places c ∗ payToks c)) ⊢ bigSep Finset.univ (G' m ρ) :=
    (sep_mono_left (BI.bigSep_of_persistent Finset.univ (base m ρ K))).trans (by rw [← bigSep_sep']; exact bigSep_mono fun c _ => one c)
  iapply all
  isplitr
  · unfold base; isplitl; · iexact HI
    iexact HR
  · iapply (Entails.of_eq (bigSep_sep' Finset.univ (fun c : Dev nD => (places c : sProp (MT nD τ sig Unit (Elt F) ℕ UU ℕ))) payToks).symm)
    isplitl [Hat]; · unfold places; iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp (MT nD τ sig Unit (Elt F) ℕ UU ℕ))
    ⊢ |={Set.univ}=> bigSep Finset.univ (G' m ρ) :=
  ((bigSep_mono fun c _ => core_alloc m ρ c).trans (bigSep_fupd _ _)).trans (BI.fupd_mono (regroup m ρ))

/-! ## The launch credit -/

/-- What a device may wait for on account of the others' debt to it over some transfers, the first of them apart. -/
theorem cred_dues (k : Fin 8) (l : List (Fin 8)) (c : Dev nD) :
    (Pipeline.launchCred (fun d => dues d (k :: l)) c : sProp (MT nD τ sig Unit (Elt F) ℕ UU ℕ))
      ⊢ iprop(Pipeline.launchCred (fun d => dues d l) c ∗ cred (tallyAt (recvCell c k) () (amt k))) := by
  rw [show (fun d : Dev nD => dues d (k :: l)) = fun d => dues d l + tallyAt (recvCell (peer (via k) d) k) () (amt k) from rfl,
    Pipeline.launchCred_add]
  exact sep_mono_right (Pipeline.launchCred_tallyAt (.dma (recvS k)) (peer (via k)) (peer (via k)) (peer_peer _) (peer_peer _) () (amt k) c)

theorem cred_bar (c : Dev nD) :
    (Pipeline.launchCred debt c : sProp (MT nD τ sig Unit (Elt F) ℕ UU ℕ))
      ⊢ iprop(Pipeline.launchCred (fun d => dues d order) c ∗ cred (tallyAt (barCell c) () 2)) := by
  rw [show (debt : Dev nD → CellTallies nD τ sig Unit) = fun d => (dues d order + tallyAt (barCell (peer true d)) () 1) + tallyAt (barCell (peer false d)) () 1 from rfl,
    Pipeline.launchCred_add, Pipeline.launchCred_add]
  iintro ⟨⟨H, H1⟩, H2⟩
  isplitl [H]; · iexact H
  ihave H1 := (Pipeline.launchCred_tallyAt (.reg barS) (peer true) (peer true) (peer_peer _) (peer_peer _) () 1 c) $$ H1
  ihave H2 := (Pipeline.launchCred_tallyAt (.reg barS) (peer false) (peer false) (peer_peer _) (peer_peer _) () 1 c) $$ H2
  rw [show (2 : ℕ) = 1 + 1 from rfl, ← tallyAt_add]
  iapply (cred_add _ _).2
  isplitl [H1] <;> iassumption

theorem creds (c : Dev nD) :
    (Pipeline.launchCred debt c : sProp (MT nD τ sig Unit (Elt F) ℕ UU ℕ))
      ⊢ iprop(cred (tallyAt (barCell c) () 2) ∗ bigSep Finset.univ fun k => cred (tallyAt (recvCell c k) () (amt k))) := by
  rw [each]
  iintro H
  ihave H := (cred_bar (F := F) c) $$ H
  icases H with ⟨H, HB⟩
  unfold order
  ihave H := (cred_dues (F := F) 0 [4, 1, 5, 2, 6, 3, 7] c) $$ H
  icases H with ⟨H, H0⟩
  ihave H := (cred_dues (F := F) 4 [1, 5, 2, 6, 3, 7] c) $$ H
  icases H with ⟨H, H4⟩
  ihave H := (cred_dues (F := F) 1 [5, 2, 6, 3, 7] c) $$ H
  icases H with ⟨H, H1⟩
  ihave H := (cred_dues (F := F) 5 [2, 6, 3, 7] c) $$ H
  icases H with ⟨H, H5⟩
  ihave H := (cred_dues (F := F) 2 [6, 3, 7] c) $$ H
  icases H with ⟨H, H2⟩
  ihave H := (cred_dues (F := F) 6 [3, 7] c) $$ H
  icases H with ⟨H, H6⟩
  ihave H := (cred_dues (F := F) 3 [7] c) $$ H
  icases H with ⟨H, H3⟩
  ihave H := (cred_dues (F := F) 7 [] c) $$ H
  icases H with ⟨H, H7⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The launch theorem's side conditions -/

/-- Places, tokens and credits make a device's purse. -/
theorem purse_intro (c : Dev nD) :
    iprop(places c ∗ payToks c ∗ cred (tallyAt (barCell c) () 2) ∗ bigSep Finset.univ fun k => cred (tallyAt (recvCell c k) () (amt k)))
      ⊢ (purse c : sProp (MT nD τ sig Unit (Elt F) ℕ UU ℕ)) := by
  unfold places payToks purse ready hearing
  rw [bigSep_sems]
  simp only [bigSep_sep', kcell_send, kcell_recv]
  iintro ⟨⟨HaB, HaS, HaR⟩, ⟨Ht1, Ht0, HtS, HtR⟩, HcB, HcR⟩
  isplitl [Ht1 Ht0]; · isplitl [Ht0] <;> iassumption
  isplitl [HcB HaB]
  · isplitl [HcB]; · iexact HcB
    iexact HaB
  isplitl [HtS HtR HaS]
  · isplitl [HtS]; · iexact HtS
    isplitl [HtR] <;> iassumption
  isplitl [HcR] <;> iassumption

theorem start_intro (c : Dev nD) :
    iprop(Pipeline.unscopedRestP Pipeline.Prefetch.none cfg0.spec c (fun b => m ((c : Thread nD τ).loc b)) ∗ levAts L lv
        ∗ Pipeline.launchCred debt c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HcB, HcR⟩
  unfold G'
  icases HG with ⟨%K, Hb, Hp, Ht⟩
  imodintro
  unfold start
  isplitl
  · isplitl [Hb Hlev]
    · iexists K; unfold records base
      icases Hb with ⟨H1, H2⟩
      isplitl [H1]; · iexact H1
      isplitl [H2] <;> iassumption
    iapply (purse_intro (F := F) c)
    isplitl [Hp]; · iexact Hp
    isplitl [Ht]; · iexact Ht
    isplitl [HcB] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  unfold desk buf; iexact Hr

theorem calm_eq (c : Dev nD) : (calm c : sProp (MT nD τ sig Unit (Elt F) ℕ UU ℕ)) = iprop(unscopedSems0 c ∗ Pipeline.ownSems0 osem c) := by
  rw [← sems_eq, bigSep_sems]
  simp only [kcell_send, kcell_recv]
  rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [calm_eq]
  unfold desk buf
  iintro ⟨⟨Hu, Ho⟩, Hr⟩
  isplitl [Hu]; · iexact Hu
  isplitl [Ho] <;> iassumption

theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t =>
    mayWait_stage c _ (by revert c; fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero the four devices' program ends, whatever the order of its steps, with each
    device's arrays at `finalA` and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := debt) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ours m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are left as they were. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _
end Launch

end Cert.KernelIdeal.Wave
-- ==== Proof.Frames.lean ====
/-
What the five programs leave behind beside their results: the arguments as they were, and every counter at zero.
-/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem

/-- The kernel on the device's words: every run ends, its four arguments are as they were, its counters are zero. -/
theorem kernel : Cert.quiescent_Kernel (hKernel := Cert.Kernel.Gen.facts) := fun m ρ _ =>
  (θ_run (Cert.Kernel.defs (F := Bits)) _ _).mono
    (fun _ h => ⟨fun c =>
      ⟨(h.1 c 0).trans (Cert.Kernel.Wave.finalA_in m ρ c 0 rfl), (h.1 c 1).trans (Cert.Kernel.Wave.finalA_in m ρ c 1 rfl),
        (h.1 c 2).trans (Cert.Kernel.Wave.finalA_in m ρ c 2 rfl), (h.1 c 3).trans (Cert.Kernel.Wave.finalA_in m ρ c 3 rfl)⟩, h.2⟩)
    (Cert.Kernel.Wave.run_main (F := Bits) m ρ)

/-- The same of the kernel over the extended reals. -/
theorem ideal : Cert.quiescent_KernelIdeal (hKernelIdeal := Cert.KernelIdeal.Gen.facts) := fun m ρ _ =>
  (θ_run (Cert.KernelIdeal.defs (F := Ideal)) _ _).mono
    (fun _ h => ⟨fun c =>
      ⟨(h.1 c 0).trans (Cert.KernelIdeal.Wave.finalA_in m ρ c 0 rfl), (h.1 c 1).trans (Cert.KernelIdeal.Wave.finalA_in m ρ c 1 rfl),
        (h.1 c 2).trans (Cert.KernelIdeal.Wave.finalA_in m ρ c 2 rfl), (h.1 c 3).trans (Cert.KernelIdeal.Wave.finalA_in m ρ c 3 rfl)⟩, h.2⟩)
    (Cert.KernelIdeal.Wave.run_main (F := Ideal) m ρ)

/-- The same of the reference, which has no counter at all. -/
theorem plain : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

end Cert.Frames

end
-- ==== Proof.Gather.lean ====
/-
What the exchanges of the all-reduce leave in the result: every device ends with the sum, over the four devices, of what
each had computed by itself.
-/
module

public import proofs.«01_k».proof.Proof.KernelIdeal.Protocol
public import Idealize.ShloMosaic.Lib.Pointwise

@[expose] public section

noncomputable section

namespace Cert.KernelIdeal.Gather

open Idealize.ShloMosaic
open Cert.KernelIdeal Cert.KernelIdeal.Gen Cert.Wire Cert.KernelIdeal.Wave

/-! ## Storing and reading -/

/-- A store of the values of `f` makes the buffer `f` on the rectangle and keeps the rest. -/
theorem put_of {s : Shape} {α : EltTy → Type} {e : EltTy} (X : s.Idx → α e) (r : Rect s) (w : r.shape.Idx → α e) (f : s.Idx → α e)
    (h : ∀ j, w j = f (r.emb j)) (i : s.Idx) [Decidable (i ∈ r.set)] : put X r w i = if i ∈ r.set then f i else X i := by
  split
  · rename_i hi
    rw [← Rect.map_emb_univ] at hi
    obtain ⟨j, -, rfl⟩ := Finset.mem_map.mp hi
    rw [put_emb]; exact h j
  · rename_i hi
    exact put_off X r w hi

/-- A rectangle has its elements. -/
theorem emb_mem {s : Shape} (r : Rect s) (j : r.shape.Idx) : r.emb j ∈ r.set := by
  rw [← Rect.map_emb_univ]; exact Finset.mem_map_of_mem _ (Finset.mem_univ _)

/-- Rectangles of equal offsets are read alike. -/
theorem emb_same {s : Shape} {o o' size : Fin s.rank → ℕ} (e : o = o') (h : ∀ a, o a + size a ≤ s.size a) (h' : ∀ a, o' a + size a ≤ s.size a)
    (j : (⟨s.rank, size⟩ : Shape).Idx) : (Rect.unit (s := s) o size h).emb j = (Rect.unit (s := s) o' size h').emb j := by
  subst e; rfl

/-- Reshaping there and back changes nothing. -/
theorem there_back {s t : Shape} (h : t.numel = s.numel) (h' : s.numel = t.numel) (j : s.Idx) :
    Shape.reshapeEquiv h (Shape.reshapeEquiv h' j) = j := by
  rw [Shape.reshapeEquiv_reshapeEquiv, Shape.reshapeEquiv_self]

/-! ## The stored values, element by element -/

theorem pay16_at (v : S512x256.Idx → EReal) (j : S512x256.Idx) :
    thin (Val := Elt Ideal) (e := .bf16) (r := rT0) squeezes_S1x512x256_S512x256 (k0_pay16 (F := Ideal) (k0_pay15 (F := Ideal) v)) j = v j := by
  show v (Shape.reshapeEquiv _ (Shape.reshapeEquiv _ (Shape.reshapeEquiv _ j))) = v j
  rw [Shape.reshapeEquiv_self, there_back]

theorem pay18_at (v : S512x256.Idx → EReal) (j : S512x256.Idx) :
    thin (Val := Elt Ideal) (e := .bf16) (r := rT1) squeezes_S1x512x256_S512x256 (k0_pay18 (F := Ideal) v) j = v j := by
  show v (Shape.reshapeEquiv _ (Shape.reshapeEquiv _ (Shape.reshapeEquiv _ j))) = v j
  rw [Shape.reshapeEquiv_self, there_back]

theorem pay20_at (v : S256x256.Idx → EReal) (j : S256x256.Idx) : putS (F := Ideal) (k0_pay20 (F := Ideal) v) j = v j := by
  show v (Shape.reshapeEquiv _ (Shape.reshapeEquiv _ (Shape.reshapeEquiv _ j))) = v j
  rw [Shape.reshapeEquiv_self, there_back]

theorem pay22_at (v : S256x256.Idx → EReal) (j : S256x256.Idx) : putS (F := Ideal) (k0_pay22 (F := Ideal) v) j = v j :=
  pay20_at v j

theorem pay19_at (v X : S512x256.Idx → EReal) (j : S512x256.Idx) : k0_pay19 (F := Ideal) v (gotT X) j = v j + X j := by
  show v (Shape.reshapeEquiv _ j) + X ((Shape.reshapeEquiv _).symm (Shape.reshapeEquiv _ j)) = _
  rw [Shape.reshapeEquiv_self, Equiv.symm_apply_apply]

theorem pay21_at (v X : S512x256.Idx → EReal) (j : S512x256.Idx) : k0_pay21 (F := Ideal) v (gotT X) j = v j + X j :=
  pay19_at v X j

theorem pay23_at (v X : S256x256.Idx → EReal) (j : S256x256.Idx) : k0_pay23 (F := Ideal) v (gotS X) j = v j + X j := by
  show v (Shape.reshapeEquiv _ j) + X ((Shape.reshapeEquiv _).symm (Shape.reshapeEquiv _ j)) = _
  rw [Shape.reshapeEquiv_self, Equiv.symm_apply_apply]

theorem pay26_at (v X : S256x256.Idx → EReal) (j : S256x256.Idx) : k0_pay26 (F := Ideal) v (gotS X) j = v j + X j :=
  pay23_at v X j

theorem pay25_at (v X : S256x256.Idx → EReal) (j : S256x256.Idx) :
    putS (F := Ideal) (k0_pay25 (F := Ideal) (k0_pay24 (F := Ideal) v (gotS X))) j = v j + X j := by
  show k0_pay23 (F := Ideal) v (gotS X) (Shape.reshapeEquiv _ (Shape.reshapeEquiv _ j)) = _
  rw [there_back, pay23_at]

theorem pay27_at (v X : S256x256.Idx → EReal) (j : S256x256.Idx) : putS (F := Ideal) (k0_pay27 (F := Ideal) v (gotS X)) j = v j + X j :=
  pay25_at v X j

theorem pay28_at (X : S256x256.Idx → EReal) (j : S256x256.Idx) : k0_pay28 (F := Ideal) (gotS X) j = X j := by
  show X ((Shape.reshapeEquiv _).symm (Shape.reshapeEquiv _ j)) = _
  rw [Equiv.symm_apply_apply]

theorem pay29_at (X : S256x256.Idx → EReal) (j : S256x256.Idx) : k0_pay29 (F := Ideal) (gotS X) j = X j := pay28_at X j

theorem pay30_at (X : S512x256.Idx → EReal) (j : S512x256.Idx) : k0_pay30 (F := Ideal) (gotT X) j = X j := by
  show X ((Shape.reshapeEquiv _).symm (Shape.reshapeEquiv _ j)) = _
  rw [Equiv.symm_apply_apply]

theorem pay1_at (X : S512x256.Idx → EReal) (j : S512x256.Idx) : k0_pay1 (F := Ideal) (gotT X) j = X j := pay30_at X j

/-! ## Which rows a device works on -/

/-- The two binary digits that tell a device's rows. -/
def dy (c : Dev nD) : ℕ := if c.val = 1 ∨ c.val = 2 then 1 else 0
def dx (c : Dev nD) : ℕ := if c.val ≥ 2 then 1 else 0

theorem dy_le (c : Dev nD) : dy c ≤ 1 := by unfold dy; split <;> omega
theorem dx_le (c : Dev nD) : dx c ≤ 1 := by unfold dx; split <;> omega
theorem dy_false (c : Dev nD) : dy (peer false c) = 1 - dy c := by revert c; decide
theorem dx_false (c : Dev nD) : dx (peer false c) = dx c := by revert c; decide
theorem dy_true (c : Dev nD) : dy (peer true c) = dy c := by revert c; decide
theorem dx_true (c : Dev nD) : dx (peer true c) = 1 - dx c := by revert c; decide

theorem off1_at (c : Dev nD) : k0_off1 c = ![512 - 512 * dy c, 0] := k0_off1_eq c
theorem off2_at (c : Dev nD) : k0_off2 c = ![512 - 512 * dx c, 256] := k0_off2_eq c
theorem off3_at (c : Dev nD) : k0_off3 c = ![512 * dy c, 0] := k0_off3_eq c
theorem off4_at (c : Dev nD) : k0_off4 c = ![512 * dy c + 256 - 256 * dx c, 0] := k0_off4_eq c
theorem off5_at (c : Dev nD) : k0_off5 c = ![512 * dx c, 256] := k0_off5_eq c
theorem off6_at (c : Dev nD) : k0_off6 c = ![512 * dx c + 256 - 256 * dy c, 256] := k0_off6_eq c
theorem off7_at (c : Dev nD) : k0_off7 c = ![512 * dy c + 256 * dx c, 0] := k0_off7_eq c
theorem off9_at (c : Dev nD) : k0_off9 c = ![0, 256 * dx c, 0] := k0_off9_eq c
theorem off10_at (c : Dev nD) : k0_off10 c = ![512 * dx c + 256 * dy c, 256] := k0_off10_eq c
theorem off12_at (c : Dev nD) : k0_off12 c = ![1, 256 * dy c, 0] := k0_off12_eq c

/-- What leaves a device at the offset on the left arrives at its partner at the offset on the right. -/
theorem meet0 (c : Dev nD) : k0_off1 (peer (via 0) c) = k0_off3 c := by
  have := dy_le c
  rw [off1_at, off3_at, show dy (peer (via 0) c) = 1 - dy c from dy_false c, show 512 - 512 * (1 - dy c) = 512 * dy c by omega]
theorem meet4 (c : Dev nD) : k0_off2 (peer (via 4) c) = k0_off5 c := by
  have := dx_le c
  rw [off2_at, off5_at, show dx (peer (via 4) c) = 1 - dx c from dx_true c, show 512 - 512 * (1 - dx c) = 512 * dx c by omega]
theorem meet1 (c : Dev nD) : k0_off4 (peer (via 1) c) = k0_off7 c := by
  have := dx_le c
  rw [off4_at, off7_at, show dy (peer (via 1) c) = dy c from dy_true c, show dx (peer (via 1) c) = 1 - dx c from dx_true c,
    show 512 * dy c + 256 - 256 * (1 - dx c) = 512 * dy c + 256 * dx c by omega]
theorem meet5 (c : Dev nD) : k0_off6 (peer (via 5) c) = k0_off10 c := by
  have := dy_le c
  rw [off6_at, off10_at, show dy (peer (via 5) c) = 1 - dy c from dy_false c, show dx (peer (via 5) c) = dx c from dx_false c,
    show 512 * dx c + 256 - 256 * (1 - dy c) = 512 * dx c + 256 * dy c by omega]
theorem meet2 (c : Dev nD) : k0_off7 (peer (via 2) c) = k0_off4 c := by
  rw [← meet1 (peer (via 2) c)]; exact congrArg k0_off4 (peer_peer true c)
theorem meet6 (c : Dev nD) : k0_off10 (peer (via 6) c) = k0_off6 c := by
  rw [← meet5 (peer (via 6) c)]; exact congrArg k0_off6 (peer_peer false c)
theorem meet3 (c : Dev nD) : k0_off3 (peer (via 3) c) = k0_off1 c := by
  rw [← meet0 (peer (via 3) c)]; exact congrArg k0_off1 (peer_peer false c)
theorem meet7 (c : Dev nD) : k0_off5 (peer (via 7) c) = k0_off2 c := by
  rw [← meet4 (peer (via 7) c)]; exact congrArg k0_off2 (peer_peer true c)

/-- An element of the result lies in a rectangle when its row and column do. -/
theorem mem_res {o z : Fin 2 → ℕ} {p q m n : ℕ} (e : o = ![p, q]) (ez : z = ![m, n]) (h : ∀ a, o a + z a ≤ S1024x512.size a) (i : S1024x512.Idx) :
    i ∈ (Rect.unit (s := S1024x512) o z h).set ↔ (p ≤ (i 0).val ∧ (i 0).val < p + m) ∧ (q ≤ (i 1).val ∧ (i 1).val < q + n) := by
  subst e ez
  rw [Rect.mem_set_unit]
  exact Fin.forall_fin_two

/-- An element of a gathering buffer lies in a rectangle when its slot, row and column do. -/
theorem mem_near {o z : Fin 3 → ℕ} {t p q l m n : ℕ} (e : o = ![t, p, q]) (ez : z = ![l, m, n]) (h : ∀ a, o a + z a ≤ S2x512x256.size a)
    (i : S2x512x256.Idx) :
    i ∈ (Rect.unit (s := S2x512x256) o z h).set ↔ (t ≤ (i 0).val ∧ (i 0).val < t + l) ∧ (p ≤ (i 1).val ∧ (i 1).val < p + m)
      ∧ (q ≤ (i 2).val ∧ (i 2).val < q + n) := by
  subst e ez
  rw [Rect.mem_set_unit, Fin.forall_fin_succ, Fin.forall_fin_two]
  rfl

/-! ## The exchanges -/

section Steps
variable (I : Feeds Ideal)

/-- What a device computed by itself, and the sum of what all did. -/
abbrev part (c : Dev nD) : S1024x512.Idx → EReal := res0 I c
def total (i : S1024x512.Idx) : EReal := ∑ d : Dev nD, part I d i

/-- The sum is that of two pairs of partners. -/
theorem total_pairs (c : Dev nD) (i : S1024x512.Idx) :
    (part I c i + part I (peer false c) i) + (part I (peer true c) i + part I (peer false (peer true c)) i) = total I i := by
  unfold total
  rw [show (∑ d : Dev nD, part I d i) = part I 0 i + part I 1 i + part I 2 i + part I 3 i from Fin.sum_univ_four _]
  match c with
  | 0 => show part I 0 i + part I 1 i + (part I 3 i + part I 2 i) = _; abel
  | 1 => show part I 1 i + part I 0 i + (part I 2 i + part I 3 i) = _; abel
  | 2 => show part I 2 i + part I 3 i + (part I 1 i + part I 0 i) = _; abel
  | 3 => show part I 3 i + part I 2 i + (part I 0 i + part I 1 i) = _; abel

theorem total_pairs' (c : Dev nD) (i : S1024x512.Idx) :
    (part I c i + part I (peer true c) i) + (part I (peer false c) i + part I (peer true (peer false c)) i) = total I i := by
  have h : peer true (peer false c) = peer false (peer true c) := by revert c; decide
  rw [← total_pairs I c i, h]; abel

/-- After the first exchange, of the left columns, -/
theorem res1_at (c : Dev nD) (i : S1024x512.Idx) :
    res1 I c i = if i ∈ (rO3 c).set then part I c i + part I (peer false c) i else part I c i := by
  unfold res1
  refine put_of (α := Elt Ideal) (e := .f32) _ _ _ (fun i => part I c i + part I (peer false c) i) (fun j => ?_) i
  refine (pay19_at _ _ j).trans (congrArg (part I c ((rO3 c).emb j) + ·) ?_)
  refine (pay16_at _ j).trans (congrArg (part I (peer false c)) (emb_same (meet0 c) (k0_off1_inb _) (k0_off3_inb c) j))

/-- and of the right ones. -/
theorem res2_at (c : Dev nD) (i : S1024x512.Idx) :
    res2 I c i = if i ∈ (rO5 c).set then part I c i + part I (peer true c) i else res1 I c i := by
  unfold res2
  refine put_of (α := Elt Ideal) (e := .f32) _ _ _ (fun i => part I c i + part I (peer true c) i) (fun j => ?_) i
  refine (pay21_at _ _ j).trans (congrArg₂ (· + ·) ?_ ?_)
  · have hj := emb_mem (rO5 c) j
    show res1 I c ((rO5 c).emb j) = _
    rw [res1_at, if_neg]
    intro h
    rw [mem_res (off5_at c) rfl] at hj
    rw [mem_res (off3_at c) rfl] at h
    omega
  · refine (pay18_at _ j).trans (congrArg (part I (peer true c)) (emb_same (meet4 c) (k0_off2_inb _) (k0_off5_inb c) j))

/-- What is sent second: sums over a pair of partners. -/
theorem sent1_at (c : Dev nD) (j : S256x256.Idx) :
    sent1 I c j = part I c ((rO4 c).emb j) + part I (peer false c) ((rO4 c).emb j) := by
  refine (pay20_at _ j).trans ?_
  have hj := emb_mem (rO4 c) j
  show res1 I c ((rO4 c).emb j) = _
  rw [res1_at, if_pos]
  have := dy_le c
  have := dx_le c
  rw [mem_res (off4_at c) rfl] at hj
  rw [mem_res (off3_at c) rfl]
  omega

theorem sent5_at (c : Dev nD) (j : S256x256.Idx) :
    sent5 I c j = part I c ((rO6 c).emb j) + part I (peer true c) ((rO6 c).emb j) := by
  refine (pay22_at _ j).trans ?_
  have hj := emb_mem (rO6 c) j
  show res2 I c ((rO6 c).emb j) = _
  rw [res2_at, if_pos]
  have := dy_le c
  have := dx_le c
  rw [mem_res (off6_at c) rfl] at hj
  rw [mem_res (off5_at c) rfl]
  omega

/-- The second exchange gives sums over all devices, of the left columns, -/
theorem second_left (c : Dev nD) (j : S256x256.Idx) : ((res2 I c ((rO7 c).emb j) : EReal) + (sent1 I (peer (via 1) c) j : EReal) : EReal)
      = total I ((rO7 c).emb j) := by
  have hj := emb_mem (rO7 c) j
  have := dy_le c
  have := dx_le c
  have e := emb_same (s := S1024x512) (size := S256x256.size) (meet1 c) (k0_off4_inb _) (k0_off7_inb c) j
  rw [sent1_at, show (rO4 (peer (via 1) c)).emb j = (rO7 c).emb j from e, res2_at, if_neg, res1_at, if_pos]
  · exact total_pairs I c _
  · rw [mem_res (off7_at c) rfl] at hj
    rw [mem_res (off3_at c) rfl]
    omega
  · rw [mem_res (off7_at c) rfl] at hj
    rw [mem_res (off5_at c) rfl]
    omega

theorem sent2_at (c : Dev nD) (j : S256x256.Idx) : sent2 I c j = total I ((rO7 c).emb j) := by
  refine (pay25_at _ _ j).trans ?_
  exact second_left I c j

theorem res3_at (c : Dev nD) (i : S1024x512.Idx) : res3 I c i = if i ∈ (rO7 c).set then total I i else res2 I c i := by
  unfold res3
  refine put_of (α := Elt Ideal) (e := .f32) _ _ _ (total I) (fun j => ?_) i
  refine (pay23_at _ _ j).trans ?_
  exact second_left I c j

/-- and of the right ones. -/
theorem second_right (c : Dev nD) (j : S256x256.Idx) : ((res3 I c ((rO10 c).emb j) : EReal) + (sent5 I (peer (via 5) c) j : EReal) : EReal)
      = total I ((rO10 c).emb j) := by
  have hj := emb_mem (rO10 c) j
  have := dy_le c
  have := dx_le c
  have e := emb_same (s := S1024x512) (size := S256x256.size) (meet5 c) (k0_off6_inb _) (k0_off10_inb c) j
  rw [sent5_at, show (rO6 (peer (via 5) c)).emb j = (rO10 c).emb j from e, res3_at, if_neg, res2_at, if_pos]
  · exact total_pairs' I c _
  · rw [mem_res (off10_at c) rfl] at hj
    rw [mem_res (off5_at c) rfl]
    omega
  · rw [mem_res (off10_at c) rfl] at hj
    rw [mem_res (off7_at c) rfl]
    omega

theorem sent6_at (c : Dev nD) (j : S256x256.Idx) : sent6 I c j = total I ((rO10 c).emb j) := by
  refine (pay27_at _ _ j).trans ?_
  exact second_right I c j

theorem res4_at (c : Dev nD) (i : S1024x512.Idx) : res4 I c i = if i ∈ (rO10 c).set then total I i else res3 I c i := by
  unfold res4
  refine put_of (α := Elt Ideal) (e := .f32) _ _ _ (total I) (fun j => ?_) i
  refine (pay26_at _ _ j).trans ?_
  exact second_right I c j

/-- The third exchange brings the sums the partner has, -/
theorem res5_at (c : Dev nD) (i : S1024x512.Idx) : res5 I c i = if i ∈ (rO4 c).set then total I i else res4 I c i := by
  unfold res5
  refine put_of (α := Elt Ideal) (e := .f32) _ _ _ (total I) (fun j => ?_) i
  refine (pay28_at _ j).trans ((sent2_at I _ j).trans (congrArg (total I) (emb_same (meet2 c) (k0_off7_inb _) (k0_off4_inb c) j)))

theorem res6_at (c : Dev nD) (i : S1024x512.Idx) : res6 I c i = if i ∈ (rO6 c).set then total I i else res5 I c i := by
  unfold res6
  refine put_of (α := Elt Ideal) (e := .f32) _ _ _ (total I) (fun j => ?_) i
  refine (pay29_at _ j).trans ((sent6_at I _ j).trans (congrArg (total I) (emb_same (meet6 c) (k0_off10_inb _) (k0_off6_inb c) j)))

/-- The element of the result that an element of a gathering buffer stands for: `a` blocks of 512 rows and `b` columns on. -/
def spot (a b : ℕ) (ha : a ≤ 1) (hb : b ≤ 256) (i : S2x512x256.Idx) : S1024x512.Idx :=
  ix2 ⟨512 * a + (i 1).val, by have : (i 1).val < 512 := (i 1).isLt; omega⟩ ⟨b + (i 2).val, by have : (i 2).val < 256 := (i 2).isLt; omega⟩

/-- A small slot's element, put at its rows of a gathering buffer, stands for the element its rectangle of the result has. -/
theorem spot_small (a b : ℕ) (ha : a ≤ 1) (hb : b ≤ 256) {o : Fin 3 → ℕ} {o' : Fin 2 → ℕ} {t p : ℕ} (e : o = ![t, p, 0]) (e' : o' = ![512 * a + p, b])
    (h : ∀ k, o k + S1x256x256.size k ≤ S2x512x256.size k) (h' : ∀ k, o' k + S256x256.size k ≤ S1024x512.size k) (j : S256x256.Idx) :
    spot a b ha hb ((rH o h).emb (Shape.reshapeEquiv squeezes_S1x256x256_S256x256.numel_eq j)) = (Rect.unit (s := S1024x512) o' S256x256.size h').emb j := by
  subst e e'
  have hr : Shape.reshapeEquiv squeezes_S1x256x256_S256x256.numel_eq j = Fin.cons ⟨0, Nat.one_pos⟩ j := Shape.reshapeEquiv_cons_one (d := ![256, 256]) _ j
  rw [hr]
  funext k
  match k with
  | ⟨0, _⟩ => exact Fin.ext (show 512 * a + (p + 1 * (j 0).val) = 512 * a + p + 1 * (j 0).val by omega)
  | ⟨1, _⟩ => exact Fin.ext (show b + (0 + 1 * (j 1).val) = b + 1 * (j 1).val by omega)

theorem spot_tall (a b : ℕ) (ha : a ≤ 1) (hb : b ≤ 256) {o : Fin 3 → ℕ} {o' : Fin 2 → ℕ} {t : ℕ} (e : o = ![t, 0, 0]) (e' : o' = ![512 * a, b])
    (h : ∀ k, o k + S1x512x256.size k ≤ S2x512x256.size k) (h' : ∀ k, o' k + S512x256.size k ≤ S1024x512.size k) (j : S512x256.Idx) :
    spot a b ha hb ((Rect.unit (s := S2x512x256) o S1x512x256.size h).emb (Shape.reshapeEquiv squeezes_S1x512x256_S512x256.numel_eq j))
      = (Rect.unit (s := S1024x512) o' S512x256.size h').emb j := by
  subst e e'
  have hr : Shape.reshapeEquiv squeezes_S1x512x256_S512x256.numel_eq j = Fin.cons ⟨0, Nat.one_pos⟩ j := Shape.reshapeEquiv_cons_one (d := ![512, 256]) _ j
  rw [hr]
  funext k
  match k with
  | ⟨0, _⟩ => exact Fin.ext (show 512 * a + (0 + 1 * (j 0).val) = 512 * a + 1 * (j 0).val by omega)
  | ⟨1, _⟩ => exact Fin.ext (show b + (0 + 1 * (j 1).val) = b + 1 * (j 1).val by omega)

/-- The half of the rows a device has gathered, of the left columns -/
theorem sent3_at (c : Dev nD) (j : S512x256.Idx) : sent3 I c j = total I ((rO3 c).emb j) := by
  have hy := dy_le c
  have hx := dx_le c
  set i : S2x512x256.Idx := rT0.emb (Shape.reshapeEquiv squeezes_S1x512x256_S512x256.numel_eq j) with hi
  have hm : i ∈ rT0.set := emb_mem rT0 _
  rw [← spot_tall (dy c) 0 hy (by omega) rfl (off3_at c) inb_S2x512x256_S1x512x256_0_0_0 (k0_off3_inb c) j]
  show half0 I c i = total I (spot (dy c) 0 hy (by omega) i)
  unfold half0
  rw [put_of (α := Elt Ideal) (e := .bf16) _ _ _ (fun i => total I (spot (dy c) 0 hy (by omega) i)) ?_ i]
  · split
    · rfl
    · rename_i h
      rw [put_of (α := Elt Ideal) (e := .bf16) _ _ _ (fun i => total I (spot (dy c) 0 hy (by omega) i)) ?_ i, if_pos]
      · have h' : ¬ i ∈ (rH (k0_off9 (peer true c)) (k0_off9_inb _)).set := h
        rw [mem_near (off9_at _) rfl, dx_true] at h'
        rw [mem_near rfl rfl] at hm
        rw [mem_near (off9_at c) rfl]
        omega
      · intro k
        obtain ⟨l, rfl⟩ := (Shape.reshapeEquiv squeezes_S1x256x256_S256x256.numel_eq).surjective k
        refine (congrArg (sent2 I c) (Equiv.symm_apply_apply _ l)).trans ((sent2_at I c l).trans (congrArg (total I) ?_))
        exact (spot_small (dy c) 0 hy (by omega) (off9_at c) (off7_at c) _ _ l).symm
  · intro k
    obtain ⟨l, rfl⟩ := (Shape.reshapeEquiv squeezes_S1x256x256_S256x256.numel_eq).surjective k
    refine (congrArg (sent2 I (peer (via 2) c)) (Equiv.symm_apply_apply _ l)).trans ((sent2_at I _ l).trans (congrArg (total I) ?_))
    refine (spot_small (dy c) 0 hy (by omega) (off9_at _) ?_ _ _ l).symm
    rw [off7_at, show dy (peer (via 2) c) = dy c from dy_true c]

/-- and of the right ones. -/
theorem sent7_at (c : Dev nD) (j : S512x256.Idx) : sent7 I c j = total I ((rO5 c).emb j) := by
  have hy := dy_le c
  have hx := dx_le c
  set i : S2x512x256.Idx := rT1.emb (Shape.reshapeEquiv squeezes_S1x512x256_S512x256.numel_eq j) with hi
  have hm : i ∈ rT1.set := emb_mem rT1 _
  rw [← spot_tall (dx c) 256 hx (by omega) rfl (off5_at c) inb_S2x512x256_S1x512x256_1_0_0 (k0_off5_inb c) j]
  show half1 I c i = total I (spot (dx c) 256 hx (by omega) i)
  unfold half1
  rw [put_of (α := Elt Ideal) (e := .bf16) _ _ _ (fun i => total I (spot (dx c) 256 hx (by omega) i)) ?_ i]
  · split
    · rfl
    · rename_i h
      rw [put_of (α := Elt Ideal) (e := .bf16) _ _ _ (fun i => total I (spot (dx c) 256 hx (by omega) i)) ?_ i, if_pos]
      · have h' : ¬ i ∈ (rH (k0_off12 (peer false c)) (k0_off12_inb _)).set := h
        rw [mem_near (off12_at _) rfl, dy_false] at h'
        rw [mem_near rfl rfl] at hm
        rw [mem_near (off12_at c) rfl]
        omega
      · intro k
        obtain ⟨l, rfl⟩ := (Shape.reshapeEquiv squeezes_S1x256x256_S256x256.numel_eq).surjective k
        refine (congrArg (sent6 I c) (Equiv.symm_apply_apply _ l)).trans ((sent6_at I c l).trans (congrArg (total I) ?_))
        exact (spot_small (dx c) 256 hx (by omega) (off12_at c) (off10_at c) _ _ l).symm
  · intro k
    obtain ⟨l, rfl⟩ := (Shape.reshapeEquiv squeezes_S1x256x256_S256x256.numel_eq).surjective k
    refine (congrArg (sent6 I (peer (via 6) c)) (Equiv.symm_apply_apply _ l)).trans ((sent6_at I _ l).trans (congrArg (total I) ?_))
    refine (spot_small (dx c) 256 hx (by omega) (off12_at _) ?_ _ _ l).symm
    rw [off10_at, show dx (peer (via 6) c) = dx c from dx_false c]

/-- The fourth exchange brings the half of the rows the partner has gathered, -/
theorem res7_at (c : Dev nD) (i : S1024x512.Idx) : res7 I c i = if i ∈ (rO1 c).set then total I i else res6 I c i := by
  unfold res7
  refine put_of (α := Elt Ideal) (e := .f32) _ _ _ (total I) (fun j => ?_) i
  refine (pay30_at _ j).trans ((sent3_at I _ j).trans (congrArg (total I) (emb_same (meet3 c) (k0_off3_inb _) (k0_off1_inb c) j)))

theorem res8_at (c : Dev nD) (i : S1024x512.Idx) : res8 I c i = if i ∈ (rO2 c).set then total I i else res7 I c i := by
  unfold res8
  refine put_of (α := Elt Ideal) (e := .f32) _ _ _ (total I) (fun j => ?_) i
  refine (pay1_at _ j).trans ((sent7_at I _ j).trans (congrArg (total I) (emb_same (meet7 c) (k0_off5_inb _) (k0_off2_inb c) j)))

/-- so that a device ends with the sum over all devices, everywhere. -/
theorem res8_total (c : Dev nD) : res8 I c = total I := by
  funext i
  by_cases h2 : i ∈ (rO2 c).set
  · rw [res8_at, if_pos h2]
  by_cases h1 : i ∈ (rO1 c).set
  · rw [res8_at, if_neg h2, res7_at, if_pos h1]
  by_cases h6 : i ∈ (rO6 c).set
  · rw [res8_at, if_neg h2, res7_at, if_neg h1, res6_at, if_pos h6]
  by_cases h4 : i ∈ (rO4 c).set
  · rw [res8_at, if_neg h2, res7_at, if_neg h1, res6_at, if_neg h6, res5_at, if_pos h4]
  by_cases h10 : i ∈ (rO10 c).set
  · rw [res8_at, if_neg h2, res7_at, if_neg h1, res6_at, if_neg h6, res5_at, if_neg h4, res4_at, if_pos h10]
  by_cases h7 : i ∈ (rO7 c).set
  · rw [res8_at, if_neg h2, res7_at, if_neg h1, res6_at, if_neg h6, res5_at, if_neg h4, res4_at, if_neg h10, res3_at, if_pos h7]
  exfalso
  rw [mem_res (off1_at c) rfl] at h1
  rw [mem_res (off2_at c) rfl] at h2
  rw [mem_res (off4_at c) rfl] at h4
  rw [mem_res (off6_at c) rfl] at h6
  rw [mem_res (off7_at c) rfl] at h7
  rw [mem_res (off10_at c) rfl] at h10
  have hy := dy_le c
  have hx := dx_le c
  have k0 : (i 0).val < 1024 := (i 0).isLt
  have k1 : (i 1).val < 512 := (i 1).isLt
  omega

end Steps

end Cert.KernelIdeal.Gather

end
end
-- ==== Proof.Router.lean ====
/-
The router's mathematics, over the extended reals: the scores of a token, its chances of the sixteen experts, and the
two facts that the comparison of kernel and reference rests on. Finite inputs make every chance a positive real; a
weight that is a real not below zero may be moved through the sums.
-/
module

public import Idealize.ShloMosaic.Lib.Pointwise

@[expose] public section

noncomputable section

namespace Cert.Mix

open Idealize.ShloMosaic

abbrev Toks : Shape := ⟨2, ![1024, 256]⟩
abbrev Gate : Shape := ⟨2, ![256, 16]⟩

section
variable (x : Toks.Idx → EReal) (g : Gate.Idx → EReal)

/-- How well token `r` suits expert `e`. -/
def score (r : Fin 1024) (e : Fin 16) : EReal := ∑ k : Fin 256, x (ix2 r k) * g (ix2 k e)
/-- The best score of a token. -/
def top (r : Fin 1024) : EReal := Finset.univ.fold max (Ideal.ofBits .f32 0xFF800000#32) fun e => score x g r e
/-- The softmax's numerator. -/
def rise (r : Fin 1024) (e : Fin 16) : EReal := Ideal.exp (score x g r e - top x g r)
/-- The softmax. -/
def chance (r : Fin 1024) (e : Fin 16) : EReal := Ideal.div (rise x g r e) (∑ e', rise x g r e')
end

/-- An extended real that is a real number above zero. -/
def Pos (y : EReal) : Prop := ∃ a : ℝ, 0 < a ∧ y = (a : EReal)

theorem Pos.add {y z : EReal} : Pos y → Pos z → Pos (y + z) := by
  rintro ⟨a, ha, rfl⟩ ⟨b, hb, rfl⟩
  exact ⟨a + b, add_pos ha hb, (EReal.coe_add a b).symm⟩

theorem Pos.div {y z : EReal} : Pos y → Pos z → Pos (Ideal.div y z) := by
  rintro ⟨a, ha, rfl⟩ ⟨b, hb, rfl⟩
  exact ⟨a * (1 / b), by positivity, (Ideal.div_coe hb.ne' _).trans (EReal.coe_mul a (1 / b)).symm⟩

theorem Pos.sum {ι : Type} (s : Finset ι) (hs : s.Nonempty) (f : ι → EReal) (h : ∀ i ∈ s, Pos (f i)) : Pos (∑ i ∈ s, f i) := by
  classical
  induction hs using Finset.Nonempty.cons_induction with
  | singleton a => simpa using h a (by simp)
  | cons a s ha _ ih =>
    rw [Finset.sum_cons]
    exact (h a (Finset.mem_cons_self a s)).add (ih fun i hi => h i (Finset.mem_cons_of_mem hi))

/-- A sum of products of reals is a real. -/
theorem real_sum {n : ℕ} (u v : Fin n → ℝ) : ∃ a : ℝ, ∑ k, (u k : EReal) * (v k : EReal) = (a : EReal) := by
  have h : ∀ s : Finset (Fin n), ∃ a : ℝ, ∑ k ∈ s, (u k : EReal) * (v k : EReal) = (a : EReal) := by
    intro s
    induction s using Finset.cons_induction with
    | empty => exact ⟨0, by simp⟩
    | cons k s hk ih =>
      obtain ⟨a, ih⟩ := ih
      exact ⟨u k * v k + a, by rw [Finset.sum_cons, ih, EReal.coe_add, EReal.coe_mul]⟩
  exact h _

section
variable {x : Toks.Idx → EReal} {g : Gate.Idx → EReal}
  (hx : ∀ i, ∃ a : ℝ, x i = (a : EReal)) (hg : ∀ i, ∃ a : ℝ, g i = (a : EReal)) (r : Fin 1024)
include hx hg

theorem score_real (e : Fin 16) : ∃ a : ℝ, score x g r e = (a : EReal) := by
  choose u hu using hx
  choose v hv using hg
  obtain ⟨a, ha⟩ := real_sum (fun k : Fin 256 => u (ix2 r k)) (fun k => v (ix2 k e))
  refine ⟨a, Eq.trans (Finset.sum_congr rfl fun k _ => ?_) ha⟩
  rw [hu, hv]

theorem top_real : ∃ a : ℝ, top x g r = (a : EReal) := by
  have h : ∀ s : Finset (Fin 16), ∀ b : EReal, b = ⊥ → s.fold max b (fun e => score x g r e) = ⊥
      ∨ ∃ a : ℝ, s.fold max b (fun e => score x g r e) = (a : EReal) := by
    intro s b hb
    induction s using Finset.cons_induction with
    | empty => exact .inl (by simpa using hb)
    | cons e s he ih =>
      obtain ⟨c, hc⟩ := score_real hx hg r e
      rw [Finset.fold_cons, hc]
      rcases ih with ih | ⟨a, ih⟩
      · exact .inr ⟨c, by rw [ih]; exact max_eq_left bot_le⟩
      · exact .inr ⟨max c a, by rw [ih]; exact (EReal.coe_strictMono.monotone.map_max).symm⟩
  have hb : Ideal.ofBits .f32 0xFF800000#32 = (⊥ : EReal) := by
    simp [Ideal.ofBits, Ideal.ieee]
  rcases h Finset.univ _ hb with h | h
  · exfalso
    obtain ⟨c, hc⟩ := score_real hx hg r 0
    have hle : score x g r 0 ≤ top x g r := by
      unfold top
      exact (Finset.le_fold_max (c := score x g r 0)).mpr (.inr ⟨0, Finset.mem_univ _, le_rfl⟩)
    rw [hc, show top x g r = ⊥ from h] at hle
    exact absurd hle (by simp)
  · exact h

theorem rise_pos (e : Fin 16) : Pos (rise x g r e) := by
  obtain ⟨a, ha⟩ := score_real hx hg r e
  obtain ⟨b, hb⟩ := top_real hx hg r
  refine ⟨Real.exp (a - b), Real.exp_pos _, ?_⟩
  unfold rise
  rw [ha, hb, ← EReal.coe_sub]
  rfl

/-- Every chance is a positive real. -/
theorem chance_pos (e : Fin 16) : Pos (chance x g r e) :=
  (rise_pos hx hg r e).div (Pos.sum _ Finset.univ_nonempty _ fun e' _ => rise_pos hx hg r e')

end

/-- A weight that is a real not below zero, given to each term of a sum, may be given to the sum. -/
theorem weigh {n : ℕ} {w : ℝ} (hw : 0 ≤ w) (u v : Fin n → EReal) :
    ∑ k, (u k * (w : EReal)) * v k = (w : EReal) * ∑ k, u k * v k := by
  have h : ∀ s : Finset (Fin n), ∑ k ∈ s, (u k * (w : EReal)) * v k = (w : EReal) * ∑ k ∈ s, u k * v k := by
    intro s
    induction s using Finset.cons_induction with
    | empty => simp
    | cons k s hk ih =>
      rw [Finset.sum_cons, Finset.sum_cons, ih,
        EReal.left_distrib_of_nonneg_of_ne_top (EReal.coe_nonneg.mpr hw) (EReal.coe_ne_top w)]
      congr 1
      rw [mul_comm (u k), mul_assoc]
  exact h _

/-- The kernel's sum over all sixteen experts, each weighed by what the two picks give it, is the sum of the two picks. -/
theorem picks {a b s : EReal} (ha : Pos a) (hb : Pos b) (hs : Pos s) (e₀ e₁ : Fin 16) (u : Fin 256 → EReal)
    (v : Fin 16 → Fin 256 → EReal) :
    ∑ e : Fin 16, ∑ k, (u k * Ideal.div ((if e₀ = e then a else 0) + (if e₁ = e then b else 0)) s) * v e k
      = Ideal.div a s * (∑ k, u k * v e₀ k) + Ideal.div b s * ∑ k, u k * v e₁ k := by
  obtain ⟨a, ha, rfl⟩ := ha
  obtain ⟨b, hb, rfl⟩ := hb
  obtain ⟨s, hs, rfl⟩ := hs
  have hi : 0 ≤ 1 / s := by positivity
  have one : ∀ e : Fin 16,
      ∑ k, (u k * Ideal.div ((if e₀ = e then (a : EReal) else 0) + (if e₁ = e then (b : EReal) else 0)) (s : EReal)) * v e k
        = (if e₀ = e then Ideal.div (a : EReal) (s : EReal) * ∑ k, u k * v e k else 0)
          + (if e₁ = e then Ideal.div (b : EReal) (s : EReal) * ∑ k, u k * v e k else 0) := by
    intro e
    have hw : Ideal.div ((if e₀ = e then (a : EReal) else 0) + (if e₁ = e then (b : EReal) else 0)) (s : EReal)
        = ((((if e₀ = e then a else 0) * (1 / s)) + ((if e₁ = e then b else 0) * (1 / s)) : ℝ) : EReal) := by
      rw [Ideal.div_coe hs.ne', ← add_mul, EReal.coe_mul, EReal.coe_add]
      congr 2 <;> split <;> simp
    have n₀ : 0 ≤ (if e₀ = e then a else 0) * (1 / s) := mul_nonneg (by split <;> [exact ha.le; exact le_rfl]) hi
    have n₁ : 0 ≤ (if e₁ = e then b else 0) * (1 / s) := mul_nonneg (by split <;> [exact hb.le; exact le_rfl]) hi
    rw [hw, weigh (add_nonneg n₀ n₁), EReal.coe_add,
      EReal.right_distrib_of_nonneg (EReal.coe_nonneg.mpr n₀) (EReal.coe_nonneg.mpr n₁)]
    congr 1
    · split
      · rw [Ideal.div_coe hs.ne', EReal.coe_mul]
      · simp
    · split
      · rw [Ideal.div_coe hs.ne', EReal.coe_mul]
      · simp
  rw [Finset.sum_congr rfl fun e _ => one e, Finset.sum_add_distrib]
  simp

end Cert.Mix

end
-- ==== Proof.Share.lean ====
/-
What one device computes by itself: the products of the tokens with its four experts, each token scaled by the weight it
gives the expert, and how the four devices' parts make up the sum over the sixteen experts.
-/
module

public import proofs.«01_k».proof.Proof.Gather
public import proofs.«01_k».proof.Proof.Router

@[expose] public section

set_option maxRecDepth 16384

noncomputable section

namespace Cert.KernelIdeal.Share

open Idealize.ShloMosaic
open Cert.KernelIdeal Cert.KernelIdeal.Gen Cert.Wire Cert.KernelIdeal.Wave Cert.Mix

/-! ## Words -/

/-- Two words that name experts are equal when the experts are. -/
theorem word_eq (e₀ e₁ : Fin 16) : (BitVec.ofNat 32 e₀.val = BitVec.ofNat 32 e₁.val) ↔ e₀ = e₁ := by
  constructor
  · intro h
    have := congrArg BitVec.toNat h
    rw [BitVec.toNat_ofNat, BitVec.toNat_ofNat] at this
    exact Fin.ext (by omega)
  · rintro rfl; rfl

/-- A choice made by comparing two such words. -/
theorem choose_word {α : Type} (e₀ e₁ : Fin 16) (a b : α) {u v : BitVec 32} (hu : u = BitVec.ofNat 32 e₀.val) (hv : v = BitVec.ofNat 32 e₁.val) :
    Scalar.select (IntOp.cmpi .eq u v) a b = if e₀ = e₁ then a else b := by
  subst hu hv
  by_cases h : e₀ = e₁
  · subst h; simp [Scalar.select, IntOp.cmpi]
  · have : ¬ BitVec.ofNat 32 e₀.val = BitVec.ofNat 32 e₁.val := fun hh => h ((word_eq _ _).1 hh)
    simp [Scalar.select, IntOp.cmpi, beq_eq_false_iff_ne.mpr this, h]

/-- Expert `j` of device `c`. -/
def mine (c : Dev nD) (j : Fin 4) : Fin 16 := ⟨4 * c.val + j.val, by have : c.val < 4 := c.isLt; omega⟩

theorem mine_word (c : Dev nD) (j : Fin 4) :
    Scalar.addi (Scalar.muli (num c) 4#32) (BitVec.ofNat 32 j.val) = BitVec.ofNat 32 (mine c j).val := by
  revert c j; decide

/-! ## The lanes -/

section
variable (I : Feeds Ideal) (c : Dev nD) (r : Fin 1024) (e₀ e₁ : Fin 16)

theorem whole_x : rd (I.x c) rX = I.x c := by
  funext j
  refine congrArg (I.x c) (funext fun a => Fin.ext ?_)
  match a with
  | ⟨0, _⟩ => exact (Nat.zero_add _).trans (Nat.one_mul _)
  | ⟨1, _⟩ => exact (Nat.zero_add _).trans (Nat.one_mul _)
theorem whole_g : rd (I.g c) rG = I.g c := by
  funext j
  refine congrArg (I.g c) (funext fun a => Fin.ext ?_)
  match a with
  | ⟨0, _⟩ => exact (Nat.zero_add _).trans (Nat.one_mul _)
  | ⟨1, _⟩ => exact (Nat.zero_add _).trans (Nat.one_mul _)
theorem whole_w : wts I c = I.w c := by
  funext j
  refine congrArg (I.w c) (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem tok_at (k : Fin 256) : tok I c (ix2 r k) = I.x c (ix2 r k) := by
  unfold tok
  rw [whole_x]
  pointwise [k0_pay2]

theorem prob_at (e : Fin 16) : prob I c (ix2 r e) = chance (I.x c) (I.g c) r e := by
  unfold prob
  rw [whole_x, whole_g]
  pointwise [k0_pay3, k0_pay2]
  rfl

/-- The column of first picks, and of second ones. -/
theorem col_at0 (h₀ : I.i c (ix2 r 0) = BitVec.ofNat 32 e₀.val) : rd (I.i c) rI0 (ix2 r 0) = BitVec.ofNat 32 e₀.val := by
  rw [← h₀]
  refine congrArg (I.i c) (funext fun a => Fin.ext ?_)
  match a with
  | ⟨0, _⟩ => exact (Nat.zero_add _).trans (Nat.one_mul _)
  | ⟨1, _⟩ => rfl
theorem col_at1 (h₁ : I.i c (ix2 r 1) = BitVec.ofNat 32 e₁.val) : rd (I.i c) rI1 (ix2 r 0) = BitVec.ofNat 32 e₁.val := by
  rw [← h₁]
  refine congrArg (I.i c) (funext fun a => Fin.ext ?_)
  match a with
  | ⟨0, _⟩ => exact (Nat.zero_add _).trans (Nat.one_mul _)
  | ⟨1, _⟩ => rfl

theorem pick0_at (h₀ : I.i c (ix2 r 0) = BitVec.ofNat 32 e₀.val) : pick0 I c (ix2 r 0) = BitVec.ofNat 32 e₀.val := by
  refine Eq.trans ?_ (col_at0 I c r e₀ h₀)
  unfold pick0
  pointwise [k0_pay4]
theorem pick1_at (h₁ : I.i c (ix2 r 1) = BitVec.ofNat 32 e₁.val) : pick1 I c (ix2 r 0) = BitVec.ofNat 32 e₁.val := by
  refine Eq.trans ?_ (col_at1 I c r e₁ h₁)
  unfold pick1
  pointwise [k0_pay5]
  rfl

/-- A sum that picks one expert's chance. -/
theorem one_hot (p : Fin 16 → EReal) {u : BitVec 32} (hu : u = BitVec.ofNat 32 e₀.val) :
    ∑ e : Fin 16, Scalar.select (IntOp.cmpi .eq (BitVec.ofNat 32 e.val) u) (p e) 0 = p e₀ := by
  rw [Finset.sum_congr rfl fun e _ => choose_word e e₀ (p e) 0 rfl hu]
  simp

theorem gate0_at (h₀ : I.i c (ix2 r 0) = BitVec.ofNat 32 e₀.val) : gate0 I c (ix2 r 0) = chance (I.x c) (I.g c) r e₀ := by
  rw [← prob_at]
  unfold gate0
  pointwise [k0_pay6]
  exact one_hot e₀ (fun e => prob I c (ix2 r e)) (pick0_at I c r e₀ h₀)

theorem gate1_at (h₁ : I.i c (ix2 r 1) = BitVec.ofNat 32 e₁.val) : gate1 I c (ix2 r 0) = chance (I.x c) (I.g c) r e₁ := by
  rw [← prob_at]
  unfold gate1
  pointwise [k0_pay7]
  exact one_hot e₁ (fun e => prob I c (ix2 r e)) (pick1_at I c r e₁ h₁)

/-- The weight a token gives an expert. -/
def weight (x : S1024x256.Idx → EReal) (g : S256x16.Idx → EReal) (e : Fin 16) : EReal :=
  Ideal.div ((if e₀ = e then chance x g r e₀ else 0) + (if e₁ = e then chance x g r e₁ else 0)) (chance x g r e₀ + chance x g r e₁)

theorem gates_at (h₀ : I.i c (ix2 r 0) = BitVec.ofNat 32 e₀.val) (h₁ : I.i c (ix2 r 1) = BitVec.ofNat 32 e₁.val) :
    gates I c (ix2 r 0) = chance (I.x c) (I.g c) r e₀ + chance (I.x c) (I.g c) r e₁ := by
  rw [← gate0_at I c r e₀ h₀, ← gate1_at I c r e₁ h₁]
  rfl

/-- One lane's scaled token. -/
theorem scaled (j : Fin 4) (k : Fin 256) {n : BitVec 32} (hn : n = BitVec.ofNat 32 j.val)
    (h₀ : I.i c (ix2 r 0) = BitVec.ofNat 32 e₀.val) (h₁ : I.i c (ix2 r 1) = BitVec.ofNat 32 e₁.val) :
    tok I c (ix2 r k) * Ideal.div
        (Scalar.select (IntOp.cmpi .eq (pick0 I c (ix2 r 0)) (Scalar.addi (Scalar.muli (num c) 4#32) n)) (gate0 I c (ix2 r 0)) 0
          + Scalar.select (IntOp.cmpi .eq (pick1 I c (ix2 r 0)) (Scalar.addi (Scalar.muli (num c) 4#32) n)) (gate1 I c (ix2 r 0)) 0)
        (gates I c (ix2 r 0))
      = I.x c (ix2 r k) * weight r e₀ e₁ (I.x c) (I.g c) (mine c j) := by
  subst hn
  rw [choose_word e₀ (mine c j) _ _ (pick0_at I c r e₀ h₀) (mine_word c j), choose_word e₁ (mine c j) _ _ (pick1_at I c r e₁ h₁) (mine_word c j),
    tok_at, gate0_at I c r e₀ h₀, gate1_at I c r e₁ h₁, gates_at I c r e₀ e₁ h₀ h₁]
  rfl

variable (h₀ : I.i c (ix2 r 0) = BitVec.ofNat 32 e₀.val) (h₁ : I.i c (ix2 r 1) = BitVec.ofNat 32 e₁.val)
include h₀ h₁

theorem lane0_at (k : Fin 256) : lane0 I c (ix2 r k) = I.x c (ix2 r k) * weight r e₀ e₁ (I.x c) (I.g c) (mine c 0) := by
  refine Eq.trans ?_ (scaled I c r e₀ e₁ 0 k rfl h₀ h₁)
  unfold lane0
  pointwise [k0_pay9]
  rfl
theorem lane1_at (k : Fin 256) : lane1 I c (ix2 r k) = I.x c (ix2 r k) * weight r e₀ e₁ (I.x c) (I.g c) (mine c 1) := by
  refine Eq.trans ?_ (scaled I c r e₀ e₁ 1 k rfl h₀ h₁)
  unfold lane1
  pointwise [k0_pay10]
  rfl
theorem lane2_at (k : Fin 256) : lane2 I c (ix2 r k) = I.x c (ix2 r k) * weight r e₀ e₁ (I.x c) (I.g c) (mine c 2) := by
  refine Eq.trans ?_ (scaled I c r e₀ e₁ 2 k rfl h₀ h₁)
  unfold lane2
  pointwise [k0_pay11]
theorem lane3_at (k : Fin 256) : lane3 I c (ix2 r k) = I.x c (ix2 r k) * weight r e₀ e₁ (I.x c) (I.g c) (mine c 3) := by
  refine Eq.trans ?_ (scaled I c r e₀ e₁ 3 k rfl h₀ h₁)
  unfold lane3
  pointwise [k0_pay12]

/-- What a device's four experts make of a token at a column, -/
def four (f : Fin 512) : EReal :=
  ∑ j : Fin 4, ∑ k : Fin 256, (I.x c (ix2 r k) * weight r e₀ e₁ (I.x c) (I.g c) (mine c j)) * I.w c (ix3 j k f)

omit h₀ h₁ in
theorem four_eq (f : Fin 512) {a b d e : Fin 256 → EReal}
    (ha : ∀ k, a k = I.x c (ix2 r k) * weight r e₀ e₁ (I.x c) (I.g c) (mine c 0)) (hb : ∀ k, b k = I.x c (ix2 r k) * weight r e₀ e₁ (I.x c) (I.g c) (mine c 1))
    (hd : ∀ k, d k = I.x c (ix2 r k) * weight r e₀ e₁ (I.x c) (I.g c) (mine c 2)) (he : ∀ k, e k = I.x c (ix2 r k) * weight r e₀ e₁ (I.x c) (I.g c) (mine c 3)) :
    ∑ k, a k * I.w c (ix3 0 k f) + ∑ k, b k * I.w c (ix3 1 k f) + ∑ k, d k * I.w c (ix3 2 k f) + ∑ k, e k * I.w c (ix3 3 k f)
      = four I c r e₀ e₁ f := by
  unfold four
  rw [Fin.sum_univ_four]
  simp only [ha, hb, hd, he]

/-- in the left columns -/
theorem left_at (f : Fin 256) : left I c (ix2 r f) = four I c r e₀ e₁ ⟨f.val, by omega⟩ := by
  refine Eq.trans ?_ (four_eq I c r e₀ e₁ ⟨f.val, by omega⟩ (lane0_at I c r e₀ e₁ h₀ h₁) (lane1_at I c r e₀ e₁ h₀ h₁) (lane2_at I c r e₀ e₁ h₀ h₁)
    (lane3_at I c r e₀ e₁ h₀ h₁))
  unfold left
  rw [whole_w]
  pointwise [k0_pay14, k0_pay13]

/-- and in the right ones. -/
theorem right_at (f : Fin 256) : right I c (ix2 r f) = four I c r e₀ e₁ ⟨256 + f.val, by omega⟩ := by
  refine Eq.trans ?_ (four_eq I c r e₀ e₁ ⟨256 + f.val, by omega⟩ (lane0_at I c r e₀ e₁ h₀ h₁) (lane1_at I c r e₀ e₁ h₀ h₁) (lane2_at I c r e₀ e₁ h₀ h₁)
    (lane3_at I c r e₀ e₁ h₀ h₁))
  unfold right wtsB
  rw [whole_w]
  pointwise [k0_pay17, k0_pay13]

/-- A device's own part of the result. -/
theorem part_at (f : Fin 512) : res0 I c (ix2 r f) = four I c r e₀ e₁ f := by
  unfold res0
  by_cases hf : f.val < 256
  · rw [put_off, show (ix2 r f : S1024x512.Idx) = rA.emb (ix2 r (⟨f.val, hf⟩ : Fin 256)) from ?_, put_emb]
    · exact left_at I c r e₀ e₁ h₀ h₁ ⟨f.val, hf⟩
    · funext a
      match a with
      | ⟨0, _⟩ => exact Fin.ext (show r.val = 0 + 1 * r.val by omega)
      | ⟨1, _⟩ => exact Fin.ext (show f.val = 0 + 1 * f.val by omega)
    · rw [Gather.mem_res rfl rfl]
      intro h
      have : (256 : ℕ) ≤ f.val := h.2.1
      omega
  · rw [show (ix2 r f : S1024x512.Idx) = rB.emb (ix2 r (⟨f.val - 256, by omega⟩ : Fin 256)) from ?_, put_emb]
    · refine (right_at I c r e₀ e₁ h₀ h₁ ⟨f.val - 256, by omega⟩).trans (congrArg (four I c r e₀ e₁) (Fin.ext ?_))
      show 256 + (f.val - 256) = f.val
      omega
    · funext a
      match a with
      | ⟨0, _⟩ => exact Fin.ext (show r.val = 0 + 1 * r.val by omega)
      | ⟨1, _⟩ => exact Fin.ext (show f.val = 256 + 1 * (f.val - 256) by omega)

end

/-! ## All devices -/

/-- A sum over the devices and their experts is one over the experts. -/
theorem sum_mine (G : Fin 16 → EReal) : ∑ c : Dev nD, ∑ j : Fin 4, G (mine c j) = ∑ e : Fin 16, G e := by
  rw [← Fintype.sum_prod_type' fun (c : Dev nD) (j : Fin 4) => G (mine c j)]
  exact Fintype.sum_equiv (finProdFinEquiv (m := 4) (n := 4)) _ _ fun p => congrArg G (Fin.ext (Nat.add_comm _ _))

/-- When the devices hold the same tokens, router and picks, and each its four of the sixteen experts, the sum of what they
    compute is the two chosen experts' products, each weighed by its share of the two chances. -/
theorem total_at (I : Feeds Ideal) (x : S1024x256.Idx → EReal) (g : S256x16.Idx → EReal) (i : S1024x2.Idx → BitVec 32)
    (w : (⟨3, ![16, 256, 512]⟩ : Shape).Idx → EReal) (hx : ∀ c, I.x c = x) (hg : ∀ c, I.g c = g) (hi : ∀ c, I.i c = i)
    (hw : ∀ c j k f, I.w c (ix3 j k f) = w (ix3 (mine c j) k f))
    (fx : ∀ j, ∃ a : ℝ, x j = a) (fg : ∀ j, ∃ a : ℝ, g j = a) (r : Fin 1024) (f : Fin 512) (e₀ e₁ : Fin 16)
    (h₀ : i (ix2 r 0) = BitVec.ofNat 32 e₀.val) (h₁ : i (ix2 r 1) = BitVec.ofNat 32 e₁.val) :
    Gather.total I (ix2 r f)
      = Ideal.div (chance x g r e₀) (chance x g r e₀ + chance x g r e₁) * (∑ k : Fin 256, x (ix2 r k) * w (ix3 e₀ k f))
        + Ideal.div (chance x g r e₁) (chance x g r e₀ + chance x g r e₁) * ∑ k : Fin 256, x (ix2 r k) * w (ix3 e₁ k f) := by
  have pa := chance_pos fx fg r e₀
  have pb := chance_pos fx fg r e₁
  rw [← picks pa pb (pa.add pb) e₀ e₁ (fun k => x (ix2 r k)) fun e k => w (ix3 e k f)]
  refine Eq.trans ?_ (sum_mine fun e => ∑ k : Fin 256, x (ix2 r k) * weight r e₀ e₁ x g e * w (ix3 e k f))
  unfold Gather.total
  refine Finset.sum_congr rfl fun c _ => ?_
  rw [Gather.part, part_at I c r e₀ e₁ (by rw [hi]; exact h₀) (by rw [hi]; exact h₁)]
  unfold four
  simp only [hx, hg, hw]

end Cert.KernelIdeal.Share

end
end
-- ==== Proof.Plain.lean ====
/-
The reference's result at a token and a column, once its gathers are read: the two chosen experts' products, each weighed
by its share of the two chances.
-/
module

public import proofs.«01_k».proof.Proof.Router
public import proofs.«01_k».proof.Proof.Gen.ReferenceIdeal
public import proofs.«01_k».proof.Proof.Gen.ReferenceIdeal.Run

@[expose] public section

set_option maxRecDepth 16384

noncomputable section

namespace Cert.ReferenceIdeal.Plain

open Idealize.ShloMosaic Idealize.SL.Sem Cert.ReferenceIdeal Cert.ReferenceIdeal.Gen Cert.ReferenceIdeal.Value Cert.Mix

/-- A word that names a small number is that number, read with its sign. -/
theorem word_nat {n : ℕ} (h : n < 2 ^ 31) : (BitVec.ofNat 32 n).toInt.toNat = n := by
  rw [BitVec.toInt_eq_toNat_of_lt (by rw [BitVec.toNat_ofNat]; omega), BitVec.toNat_ofNat]; omega

/-- The gather of one chance a token: where the table of places holds the token's row and an expert, it is that chance. -/
theorem take_chance {α : Type} (P : S1024x16.Idx → α) (J : IVec S1024x2 32) (r : Fin 1024) (e : Fin 16)
    (h0 : J (ix2 r 0) = BitVec.ofNat 32 r.val) (h1 : J (ix2 r 1) = BitVec.ofNat 32 e.val) :
    Host.gather gather_S1024x16_S1024x2_S1024_n_01_n_n_01_1_11 P J (ix1 r) = P (ix2 r e) := by
  unfold Host.gather
  refine congrArg P (funext fun a => Fin.ext ?_)
  have hr := r.isLt
  have he := e.isLt
  set d := gather_S1024x16_S1024x2_S1024_n_01_n_n_01_1_11 with hd
  show d.start (ix1 r) J a + d.batchCoord (ix1 r) a + d.offCoord (ix1 r) a = _
  have hc : ∀ a : Fin 2, a ∈ d.collapsedSliceDims := by decide
  rw [d.batchCoord_eq_zero _ _ (by simp [hd, gather_S1024x16_S1024x2_S1024_n_01_n_n_01_1_11]),
    d.offCoord_eq_zero _ _ (fun h => ((d.mem_sKept a).1 h).1 (hc a))]
  have hm : ∀ a : Fin 2, a ∈ d.startIndexMap := by decide
  unfold GatherDims.start
  rw [dif_pos (hm a)]
  match a with
  | ⟨0, _⟩ =>
    have hi : d.siIdx (ix1 r) ⟨d.startIndexMap.idxOf (0 : Fin 2), List.idxOf_lt_length_iff.2 (hm 0)⟩ = ix2 r 0 := by
      funext b
      match b with
      | ⟨0, _⟩ => rfl
      | ⟨1, _⟩ => rfl
    show min (J (d.siIdx (ix1 r) ⟨d.startIndexMap.idxOf (0 : Fin 2), _⟩)).toInt.toNat (1024 - 1) + 0 + 0 = r.val
    rw [hi, h0, word_nat (by omega)]
    omega
  | ⟨1, _⟩ =>
    have hi : d.siIdx (ix1 r) ⟨d.startIndexMap.idxOf (1 : Fin 2), List.idxOf_lt_length_iff.2 (hm 1)⟩ = ix2 r 1 := by
      funext b
      match b with
      | ⟨0, _⟩ => rfl
      | ⟨1, _⟩ => rfl
    show min (J (d.siIdx (ix1 r) ⟨d.startIndexMap.idxOf (1 : Fin 2), _⟩)).toInt.toNat (16 - 1) + 0 + 0 = e.val
    rw [hi, h1, word_nat (by omega)]
    omega

/-- The gather of one expert's matrix a token. -/
theorem take_expert {α : Type} (W : S16x256x512.Idx → α) (J : IVec S1024x1 32) (r : Fin 1024) (k : Fin 256) (f : Fin 512) (e : Fin 16)
    (h : J (ix2 r 0) = BitVec.ofNat 32 e.val) :
    Host.gather gather_S16x256x512_S1024x1_S1024x256x512_12_0_n_n_0_1_1256512 W J (ix3 r k f) = W (ix3 e k f) := by
  unfold Host.gather
  refine congrArg W (funext fun a => Fin.ext ?_)
  have he := e.isLt
  set d := gather_S16x256x512_S1024x1_S1024x256x512_12_0_n_n_0_1_1256512 with hd
  show d.start (ix3 r k f) J a + d.batchCoord (ix3 r k f) a + d.offCoord (ix3 r k f) a = _
  rw [d.batchCoord_eq_zero _ _ (by simp [hd, gather_S16x256x512_S1024x1_S1024x256x512_12_0_n_n_0_1_1256512])]
  match a with
  | ⟨0, _⟩ =>
    have hm : (0 : Fin 3) ∈ d.startIndexMap := by decide
    have hi : d.siIdx (ix3 r k f) ⟨d.startIndexMap.idxOf (0 : Fin 3), List.idxOf_lt_length_iff.2 hm⟩ = ix2 r 0 := by
      funext b
      match b with
      | ⟨0, _⟩ => rfl
      | ⟨1, _⟩ => rfl
    show d.start (ix3 r k f) J (0 : Fin 3) + 0 + d.offCoord (ix3 r k f) (0 : Fin 3) = e.val
    rw [d.offCoord_eq_zero _ _ (fun h => ((d.mem_sKept (0 : Fin 3)).1 h).1 (by decide))]
    unfold GatherDims.start
    rw [dif_pos hm]
    show min (J (d.siIdx (ix3 r k f) ⟨d.startIndexMap.idxOf (0 : Fin 3), _⟩)).toInt.toNat (16 - 1) + 0 + 0 = e.val
    rw [hi, h, word_nat (by omega)]
    omega
  | ⟨1, _⟩ =>
    have hm : (1 : Fin 3) ∉ d.startIndexMap := by decide
    show d.start (ix3 r k f) J (1 : Fin 3) + 0 + d.offCoord (ix3 r k f) (1 : Fin 3) = k.val
    unfold GatherDims.start
    rw [dif_neg hm]
    show 0 + 0 + d.offCoord (ix3 r k f) (1 : Fin 3) = k.val
    rw [Nat.zero_add]
    rfl
  | ⟨2, _⟩ =>
    have hm : (2 : Fin 3) ∉ d.startIndexMap := by decide
    show d.start (ix3 r k f) J (2 : Fin 3) + 0 + d.offCoord (ix3 r k f) (2 : Fin 3) = f.val
    unfold GatherDims.start
    rw [dif_neg hm]
    show 0 + 0 + d.offCoord (ix3 r k f) (2 : Fin 3) = f.val
    rw [Nat.zero_add]
    rfl

/-- A word that names a small number is not below zero, so no wrapping of it takes place. -/
theorem keep {n : ℕ} (h : n < 2 ^ 31) {v : BitVec 32} (hv : v = BitVec.ofNat 32 n) (a : BitVec 32) :
    Scalar.select (IntOp.cmpi .slt v 0#32) a v = BitVec.ofNat 32 n := by
  subst hv
  have : (BitVec.ofNat 32 n).slt 0#32 = false := by
    rw [BitVec.slt_eq_decide, BitVec.toInt_eq_toNat_of_lt (by rw [BitVec.toNat_ofNat]; omega)]
    exact decide_eq_false (not_lt.mpr (Int.natCast_nonneg _))
  simp [IntOp.cmpi, this, Scalar.select]

set_option maxHeartbeats 800000 in
/-- The reference's result of a token whose picks are `e₀` and `e₁`. -/
theorem value (m : (ℓ : Loc nD τ sig) → Buf (Elt Ideal) ℓ) (x : S1024x256.Idx → EReal) (g : S256x16.Idx → EReal)
    (i : S1024x2.Idx → BitVec 32) (w : S16x256x512.Idx → EReal)
    (hx : m (((0 : Dev nD).tc : Thread nD τ).loc main_arg0) = x) (hg : m (((0 : Dev nD).tc : Thread nD τ).loc main_arg1) = g)
    (hi : m (((0 : Dev nD).tc : Thread nD τ).loc main_arg2) = i) (hw : m (((0 : Dev nD).tc : Thread nD τ).loc main_arg3) = w)
    (r : Fin 1024) (f : Fin 512) (e₀ e₁ : Fin 16) (h₀ : i (ix2 r 0) = BitVec.ofNat 32 e₀.val) (h₁ : i (ix2 r 1) = BitVec.ofNat 32 e₁.val) :
    res_main_v68 (F := Ideal) m 0 (ix2 r f)
      = Ideal.div (chance x g r e₀) (chance x g r e₀ + chance x g r e₁) * (∑ k : Fin 256, x (ix2 r k) * w (ix3 e₀ k f))
        + Ideal.div (chance x g r e₁) (chance x g r e₀ + chance x g r e₁) * ∑ k : Fin 256, x (ix2 r k) * w (ix3 e₁ k f) := by
  unfold res_main_v68
  subst hx hg hi hw
  pointwise []
  have hr := r.isLt
  have k₀ := e₀.isLt
  have k₁ := e₁.isLt
  refine congrArg₂ (· + ·) (congrArg₂ (· * ·) ?_ (Finset.sum_congr rfl fun k _ => congrArg (HMul.hMul (α := EReal) (β := EReal) (γ := EReal) _) ?_))
    (congrArg₂ (· * ·) ?_ (Finset.sum_congr rfl fun k _ => congrArg (HMul.hMul (α := EReal) (β := EReal) (γ := EReal) _) ?_))
  · rw [take_chance _ _ r e₀ ?_ ?_, take_chance _ _ r e₁ ?_ ?_]
    · pointwise []
      rfl
    · pointwise []; exact keep (by omega) rfl _
    · pointwise []; exact keep (by omega) h₁ _
    · pointwise []; exact keep (by omega) rfl _
    · pointwise []; exact keep (by omega) h₀ _
  · exact take_expert _ _ r k f e₀ (by pointwise []; exact keep (by omega) h₀ _)
  · rw [take_chance _ _ r e₁ ?_ ?_, take_chance _ _ r e₀ ?_ ?_]
    · pointwise []
      rfl
    · pointwise []; exact keep (by omega) rfl _
    · pointwise []; exact keep (by omega) h₀ _
    · pointwise []; exact keep (by omega) rfl _
    · pointwise []; exact keep (by omega) h₁ _
  · exact take_expert _ _ r k f e₁ (by pointwise []; exact keep (by omega) h₁ _)

end Cert.ReferenceIdeal.Plain

end
-- ==== Proof.Equal.lean ====
/-
The kernel and the reference agree: every device of the kernel ends with the reference's result, for finite tokens and
router and picks that name one of the sixteen experts.
-/
module

public import proofs.«01_k».proof.Defs
public import proofs.«01_k».proof.Proof.KernelIdeal.Launch
public import proofs.«01_k».proof.Proof.Share
public import proofs.«01_k».proof.Proof.Plain
public import Idealize.ShloMosaic.Lib.Pipeline.ValueKit.Geometry

@[expose] public section

set_option maxRecDepth 16384

noncomputable section

namespace Cert.Equal

open Idealize.ShloMosaic Idealize.SL.Sem

/-! ## The launch's arrays -/

section Arrays
open Cert.KernelIdeal Cert.KernelIdeal.Gen Cert.KernelIdeal.Wave
variable (m : (ℓ : Loc nD τ sig) → Buf (Elt Ideal) ℓ) (ρ : Dev nD → PrngReg) (c : Dev nD)

/-- The body sees the arrays whole. -/
theorem feed_x : (feeds m ρ).x c = m ((c.tc : Thread nD τ).loc main_arg0) := by
  funext j
  refine congrArg (m ((c.tc : Thread nD τ).loc main_arg0)) (funext fun a => Fin.ext ?_)
  match a with
  | ⟨0, _⟩ => exact (Nat.zero_add _).trans (Nat.one_mul _)
  | ⟨1, _⟩ => exact (Nat.zero_add _).trans (Nat.one_mul _)
theorem feed_g : (feeds m ρ).g c = m ((c.tc : Thread nD τ).loc main_arg1) := by
  funext j
  refine congrArg (m ((c.tc : Thread nD τ).loc main_arg1)) (funext fun a => Fin.ext ?_)
  match a with
  | ⟨0, _⟩ => exact (Nat.zero_add _).trans (Nat.one_mul _)
  | ⟨1, _⟩ => exact (Nat.zero_add _).trans (Nat.one_mul _)
theorem feed_i : (feeds m ρ).i c = m ((c.tc : Thread nD τ).loc main_arg2) := by
  funext j
  refine congrArg (m ((c.tc : Thread nD τ).loc main_arg2)) (funext fun a => Fin.ext ?_)
  match a with
  | ⟨0, _⟩ => exact (Nat.zero_add _).trans (Nat.one_mul _)
  | ⟨1, _⟩ => exact (Nat.zero_add _).trans (Nat.one_mul _)
theorem feed_w : (feeds m ρ).w c = m ((c.tc : Thread nD τ).loc main_arg3) := by
  funext j
  refine congrArg (m ((c.tc : Thread nD τ).loc main_arg3)) (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- The one block of the result is the whole array. -/
theorem out_whole : (cfg0.win 4).WholeAt t0_0 := by decide +kernel

attribute [local irreducible] res8 in
/-- The launch's only step leaves the eighth result in that block. -/
theorem out_after : (dats (F := Ideal) m ρ 0 c).after 4 t0_0 = res8 (feeds m ρ) c := rfl

/-- Whatever the only step leaves in the result's block is the array the launch ends with. -/
theorem out_ends (dat : Pipeline.Dat τ (Elt Ideal) Unit ℕ UU ℕ cfg0 c) (R : S1024x512.Idx → EReal)
    (h : dat.after 4 t0_0 = R) : dat.arrAt 4 cfg0.N = R := by
  refine dat.arrAt_eq_of_after_last 4 t0_0 out_whole R fun j => ?_
  rw [h]
  rfl

/-- The result's array ends with the sum over the devices. -/
theorem final_out : finalA m ρ c 4 = Cert.KernelIdeal.Gather.total (feeds m ρ) := by
  unfold finalA
  exact (out_ends c _ _ (out_after m ρ c)).trans
    (Cert.KernelIdeal.Gather.res8_total (feeds m ρ) c)

end Arrays

/-! ## The precondition -/

/-- An extended real below infinity in absolute value is a real. -/
theorem real_of_below {v : EReal} (h : Ideal.cmp .olt (max v (-v)) (Ideal.ofBits .f32 0x7F800000#32) = 1#1) : ∃ a : ℝ, v = a := by
  have ht : Ideal.ofBits .f32 0x7F800000#32 = (⊤ : EReal) := by simp [Ideal.ofBits, Ideal.ieee]
  rw [ht] at h
  induction v using EReal.rec with
  | coe a => exact ⟨a, rfl⟩
  | top => simp [Ideal.cmp] at h
  | bot => simp [Ideal.cmp] at h

/-- A word that is not below zero and below sixteen names an expert. -/
theorem expert_of_range {v : BitVec 32} (h : IntOp.cmpi .sge v 0#32 &&& IntOp.cmpi .slt v 16#32 = 1#1) : ∃ e : Fin 16, v = BitVec.ofNat 32 e.val := by
  have h0 : (0#32).sle v = true ∧ v.slt 16#32 = true := by
    revert h
    simp only [IntOp.cmpi]
    cases (0#32).sle v <;> cases v.slt 16#32 <;> decide
  rw [BitVec.sle_eq_decide, BitVec.slt_eq_decide, decide_eq_true_iff, decide_eq_true_iff] at h0
  have e0 : (0#32).toInt = 0 := by decide
  have e1 : (16#32).toInt = 16 := by decide
  rw [e0, e1] at h0
  have hv := BitVec.toInt_eq_toNat_cond v
  have hl := v.isLt
  have hn : v.toNat < 16 := by
    split at hv <;> omega
  exact ⟨⟨v.toNat, hn⟩, by rw [BitVec.ofNat_toNat, BitVec.setWidth_eq]⟩

section Pre
variable [Cert.Pre_served_KernelIdeal.Facts] {x : FVec Ideal Cert.Pre_served_KernelIdeal.S1024x256 .f32} {g : FVec Ideal Cert.Pre_served_KernelIdeal.S256x16 .f32}
  {i : IVec Cert.Pre_served_KernelIdeal.S1024x2 32} {w : FVec Ideal Cert.Pre_served_KernelIdeal.S4x256x512 .f32}

theorem real_x (h : (Cert.Pre_served_KernelIdeal.fn (F := Ideal) x g i w).1 = fun _ => 1#1) (j : Cert.Pre_served_KernelIdeal.S1024x256.Idx) : ∃ a : ℝ, x j = (a : EReal) :=
  real_of_below (congrFun h j)
theorem real_g (h : (Cert.Pre_served_KernelIdeal.fn (F := Ideal) x g i w).2.1 = fun _ => 1#1) (j : Cert.Pre_served_KernelIdeal.S256x16.Idx) : ∃ a : ℝ, g j = (a : EReal) :=
  real_of_below (congrFun h j)
theorem named (h : (Cert.Pre_served_KernelIdeal.fn (F := Ideal) x g i w).2.2 = fun _ => 1#1) (j : Cert.Pre_served_KernelIdeal.S1024x2.Idx) :
    ∃ e : Fin 16, i j = BitVec.ofNat 32 e.val :=
  expert_of_range (congrFun h j)

end Pre

/-- The side conditions the precondition states. -/
theorem factsK : Cert.Pre_served_KernelIdeal.Facts := ⟨by decide, by decide, by decide⟩
theorem factsR : Cert.Pre_served_ReferenceIdeal.Facts := ⟨by decide, by decide, by decide⟩

/-! ## The claim -/

/-- Expert `j` of device `c`'s block is the array's expert `4 c + j`. -/
theorem block_at (w : (⟨3, ![16, 256, 512]⟩ : Shape).Idx → EReal) (c : Fin 4) (j : Fin 4) (k : Fin 256) (f : Fin 512) :
    Layout.block ⟨3, ![4, 256, 512]⟩ ⟨3, ![16, 256, 512]⟩ 0 4 c w (by decide) (ix3 j k f) = w (ix3 (Cert.KernelIdeal.Share.mine c j) k f) := by
  refine congrArg w (funext fun a => Fin.ext ?_)
  match a with
  | ⟨0, _⟩ => exact congrArg (· + j.val) (Nat.mul_comm c.val 4)
  | ⟨1, _⟩ => rfl
  | ⟨2, _⟩ => rfl

/-- Every device of the kernel ends with the reference's result, the arguments as they were. -/
theorem algebraic : Cert.algebraic_KernelIdeal_ReferenceIdeal_pre_served_KernelIdeal (hKernelIdeal := Cert.KernelIdeal.Gen.facts)
    (hReferenceIdeal := Cert.ReferenceIdeal.Gen.facts) (hPre_served_KernelIdeal := factsK) := by
  have := factsK
  intro m ρ m' ρ' hpre hag
  refine ⟨Cert.ReferenceIdeal.Value.res_main_v68 (F := Ideal) m' 0, ?_, ?_⟩
  · refine (θ_run (Cert.KernelIdeal.defs (F := Ideal)) _ _).mono (fun r h c => ⟨(h.1 c 4).trans ?_,
      (h.1 c 0).trans (Cert.KernelIdeal.Wave.finalA_in m ρ c 0 rfl), (h.1 c 1).trans (Cert.KernelIdeal.Wave.finalA_in m ρ c 1 rfl),
      (h.1 c 2).trans (Cert.KernelIdeal.Wave.finalA_in m ρ c 2 rfl), (h.1 c 3).trans (Cert.KernelIdeal.Wave.finalA_in m ρ c 3 rfl)⟩)
      (Cert.KernelIdeal.Wave.run_main (F := Ideal) m ρ)
    refine (final_out m ρ c).trans (funext fun j => ?_)
    obtain ⟨r, f, rfl⟩ : ∃ (r : Fin 1024) (f : Fin 512), j = ix2 r f := ⟨j 0, j 1, eq_ix2 j⟩
    have fx := real_x (hpre 0).1
    have fg := real_g (hpre 0).2.1
    obtain ⟨e₀, h₀⟩ := named (hpre 0).2.2 (ix2 r 0)
    obtain ⟨e₁, h₁⟩ := named (hpre 0).2.2 (ix2 r 1)
    rw [(hag 0).1] at fx
    rw [(hag 0).2.1] at fg
    rw [(hag 0).2.2.1] at h₀ h₁
    refine (Cert.KernelIdeal.Share.total_at (Cert.KernelIdeal.Wave.feeds m ρ) _ _ _ _ (fun d => (feed_x m ρ d).trans (hag d).1)
      (fun d => (feed_g m ρ d).trans (hag d).2.1) (fun d => (feed_i m ρ d).trans (hag d).2.2.1)
      (fun d j k f => (congrFun ((feed_w m ρ d).trans (hag d).2.2.2) (ix3 j k f)).trans (block_at _ d j k f)) fx fg r f e₀ e₁ h₀ h₁).trans ?_
    exact (Cert.ReferenceIdeal.Plain.value m' _ _ _ _ rfl rfl rfl rfl r f e₀ e₁ h₀ h₁).symm
  · exact (θ_run (Cert.ReferenceIdeal.defs (F := Ideal)) _ _).mono (fun _ h => h 0) (Cert.ReferenceIdeal.Value.run (F := Ideal) m' ρ')

end Cert.Equal

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The three programs run to their end with every counter at zero, also under the precondition;
the kernel is kept by idealizing; and under the precondition it computes the reference's array. -/
theorem claim : Cert.Claim :=
  ⟨Cert.Kernel.Gen.facts, Cert.KernelIdeal.Gen.facts, Cert.ReferenceIdeal.Gen.facts,
    Cert.Equal.factsK, Cert.Equal.factsR, by
  exact ⟨Cert.Frames.kernel, Cert.Frames.ideal, fun m ρ _ => Cert.Frames.ideal m ρ trivial,
    Cert.Frames.plain, fun m ρ _ => Cert.Frames.plain m ρ trivial, trivial,
    Cert.Equal.algebraic⟩⟩

end Cert.Proof

end
